-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unbiased_gates [hPre_finite_and_unbiased_gates : Cert.Pre_finite_and_unbiased_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unbiased_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unbiased_gates [hPre_finite_and_unbiased_gates : Cert.Pre_finite_and_unbiased_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unbiased_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_and_unbiased_gates [hKernelIdeal : Cert.KernelIdeal.Facts] [hPre_finite_and_unbiased_gates : Cert.Pre_finite_and_unbiased_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unbiased_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_and_unbiased_gates [hReferenceIdeal : Cert.ReferenceIdeal.Facts] [hPre_finite_and_unbiased_gates : Cert.Pre_finite_and_unbiased_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unbiased_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_and_unbiased_gates [hKernelIdeal : Cert.KernelIdeal.Facts] [hReferenceIdeal : Cert.ReferenceIdeal.Facts] [hPre_finite_and_unbiased_gates : Cert.Pre_finite_and_unbiased_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unbiased_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_and_unbiased_gates : Cert.Pre_finite_and_unbiased_gates.Facts),
    quiescent_Kernel (hKernel := hKernel)
    ∧ quiescent_KernelIdeal (hKernelIdeal := hKernelIdeal)
    ∧ quiescent_KernelIdeal_pre_finite_and_unbiased_gates (hKernelIdeal := hKernelIdeal) (hPre_finite_and_unbiased_gates := hPre_finite_and_unbiased_gates)
    ∧ quiescent_ReferenceIdeal (hReferenceIdeal := hReferenceIdeal)
    ∧ quiescent_ReferenceIdeal_pre_finite_and_unbiased_gates (hReferenceIdeal := hReferenceIdeal) (hPre_finite_and_unbiased_gates := hPre_finite_and_unbiased_gates)
    ∧ preserves_Kernel_KernelIdeal
    ∧ algebraic_KernelIdeal_ReferenceIdeal_pre_finite_and_unbiased_gates (hKernelIdeal := hKernelIdeal) (hReferenceIdeal := hReferenceIdeal) (hPre_finite_and_unbiased_gates := hPre_finite_and_unbiased_gates)
-- ==== Pre_finite_and_unbiased_gates.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S64x1024 : Shape := ⟨2, ![64, 1024]⟩
abbrev S64 : Shape := ⟨1, ![64]⟩
abbrev S1024x64 : Shape := ⟨2, ![1024, 64]⟩
abbrev S64x4096 : Shape := ⟨2, ![64, 4096]⟩
abbrev S4096x64 : Shape := ⟨2, ![4096, 64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S64x1024 : S_.BroadcastsInDim S64x1024 (![] : Fin 0 → Fin S64x1024.rank)
  reducesTo_S64x1024_S_d0_1 : S64x1024.ReducesTo [0, 1] S_
  bcast_S_S1024x64 : S_.BroadcastsInDim S1024x64 (![] : Fin 0 → Fin S1024x64.rank)
  reducesTo_S1024x64_S_d0_1 : S1024x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_arg10 : FVec F S64 .f32) (main_arg12 : FVec F S4096 .f32) (main_v3 : IVec S_ 1) (main_v7 : IVec S_ 1) (main_v11 : IVec S_ 1) (main_v15 : IVec S_ 1) (main_v19 : IVec S_ 1) (main_v23 : IVec S_ 1) (main_v27 : IVec S_ 1) (main_v30 : IVec S_ 1) (main_cst_14 : FVec F S_ .f32) : IVec S_ 1 :=
  let main_v31 : FVec F S1024 .f32 := broadcastInDim S1024 ![] bcast_S_S1024 main_cst_14
  let main_v32 : IVec S1024 1 := cmpf .oeq main_arg8 main_v31
  let main_c_15 : IVec S_ 1 := constantI S_ 1 1#1
  let main_v33 : IVec S_ 1 := (fun x v => Host.reduce IntOp.andi x v reducesTo_S1024_S_d0 h_S_) main_v32 main_c_15
  let main_cst_16 : FVec F S_ .f32 := constant S_ .f32 0x00000000#32
  let main_v34 : FVec F S64 .f32 := broadcastInDim S64 ![] bcast_S_S64 main_cst_16
  let main_v35 : IVec S64 1 := cmpf .oeq main_arg10 main_v34
  let main_c_17 : IVec S_ 1 := constantI S_ 1 1#1
  let main_v36 : IVec S_ 1 := (fun x v => Host.reduce IntOp.andi x v reducesTo_S64_S_d0 h_S_) main_v35 main_c_17
  let main_cst_18 : FVec F S_ .f32 := constant S_ .f32 0x00000000#32
  let main_v37 : FVec F S4096 .f32 := broadcastInDim S4096 ![] bcast_S_S4096 main_cst_18
  let main_v38 : IVec S4096 1 := cmpf .oeq main_arg12 main_v37
  let main_c_19 : IVec S_ 1 := constantI S_ 1 1#1
  let main_v39 : IVec S_ 1 := (fun x v => Host.reduce IntOp.andi x v reducesTo_S4096_S_d0 h_S_) main_v38 main_c_19
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v30
  let main_v47 : IVec S_ 1 := andi main_v46 main_v33
  let main_v48 : IVec S_ 1 := andi main_v47 main_v36
  let main_v49 : IVec S_ 1 := andi main_v48 main_v39
  main_v49

def fn_part1 {F : FTy → Type} [FloatOps F] (main_arg6 : FVec F S64 .f32) (main_arg7 : FVec F S1024x64 .f32) (main_arg8 : FVec F S1024 .f32) (main_arg9 : FVec F S64x4096 .f32) (main_arg10 : FVec F S64 .f32) (main_arg11 : FVec F S4096x64 .f32) (main_arg12 : FVec F S4096 .f32) (main_v3 : IVec S_ 1) (main_v7 : IVec S_ 1) (main_v11 : IVec S_ 1) (main_v15 : IVec S_ 1) : IVec S_ 1 :=
  let main_v16 : FVec F S1024x64 .f32 := Host.absf main_arg7
  let main_cst_6 : FVec F S_ .f32 := constant S_ .f32 0x7F800000#32
  let main_v17 : FVec F S1024x64 .f32 := broadcastInDim S1024x64 ![] bcast_S_S1024x64 main_cst_6
  let main_v18 : IVec S1024x64 1 := cmpf .olt main_v16 main_v17
  let main_c_7 : IVec S_ 1 := constantI S_ 1 1#1
  let main_v19 : IVec S_ 1 := (fun x v => Host.reduce IntOp.andi x v reducesTo_S1024x64_S_d0_1 h_S_) main_v18 main_c_7
  let main_v20 : FVec F S64x4096 .f32 := Host.absf main_arg9
  let main_cst_8 : FVec F S_ .f32 := constant S_ .f32 0x7F800000#32
  let main_v21 : FVec F S64x4096 .f32 := broadcastInDim S64x4096 ![] bcast_S_S64x4096 main_cst_8
  let main_v22 : IVec S64x4096 1 := cmpf .olt main_v20 main_v21
  let main_c_9 : IVec S_ 1 := constantI S_ 1 1#1
  let main_v23 : IVec S_ 1 := (fun x v => Host.reduce IntOp.andi x v reducesTo_S64x4096_S_d0_1 h_S_) main_v22 main_c_9
  let main_v24 : FVec F S4096x64 .f32 := Host.absf main_arg11
  let main_cst_10 : FVec F S_ .f32 := constant S_ .f32 0x7F800000#32
  let main_v25 : FVec F S4096x64 .f32 := broadcastInDim S4096x64 ![] bcast_S_S4096x64 main_cst_10
  let main_v26 : IVec S4096x64 1 := cmpf .olt main_v24 main_v25
  let main_c_11 : IVec S_ 1 := constantI S_ 1 1#1
  let main_v27 : IVec S_ 1 := (fun x v => Host.reduce IntOp.andi x v reducesTo_S4096x64_S_d0_1 h_S_) main_v26 main_c_11
  let main_cst_12 : FVec F S_ .f32 := constant S_ .f32 0x00000000#32
  let main_v28 : FVec F S64 .f32 := broadcastInDim S64 ![] bcast_S_S64 main_cst_12
  let main_v29 : IVec S64 1 := cmpf .oeq main_arg6 main_v28
  let main_c_13 : IVec S_ 1 := constantI S_ 1 1#1
  let main_v30 : IVec S_ 1 := (fun x v => Host.reduce IntOp.andi x v reducesTo_S64_S_d0 h_S_) main_v29 main_c_13
  let main_cst_14 : FVec F S_ .f32 := constant S_ .f32 0x00000000#32
  fn_part2 (F := F) main_arg8 main_arg10 main_arg12 main_v3 main_v7 main_v11 main_v15 main_v19 main_v23 main_v27 main_v30 main_cst_14

def fn {F : FTy → Type} [FloatOps F] (main_arg0 : FVec F S2x2048x1024 .f32) (main_arg1 : FVec F S4096x1024 .f32) (main_arg2 : FVec F S4096 .f32) (main_arg3 : FVec F S1024x4096 .f32) (main_arg4 : FVec F S1024 .f32) (main_arg5 : FVec F S64x1024 .f32) (main_arg6 : FVec F S64 .f32) (main_arg7 : FVec F S1024x64 .f32) (main_arg8 : FVec F S1024 .f32) (main_arg9 : FVec F S64x4096 .f32) (main_arg10 : FVec F S64 .f32) (main_arg11 : FVec F S4096x64 .f32) (main_arg12 : FVec F S4096 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S4096 .f32 := Host.absf main_arg2
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : FVec F S64x1024 .f32 := Host.absf main_arg5
  let main_cst_4 : FVec F S_ .f32 := constant S_ .f32 0x7F800000#32
  let main_v13 : FVec F S64x1024 .f32 := broadcastInDim S64x1024 ![] bcast_S_S64x1024 main_cst_4
  let main_v14 : IVec S64x1024 1 := cmpf .olt main_v12 main_v13
  let main_c_5 : IVec S_ 1 := constantI S_ 1 1#1
  let main_v15 : IVec S_ 1 := (fun x v => Host.reduce IntOp.andi x v reducesTo_S64x1024_S_d0_1 h_S_) main_v14 main_c_5
  fn_part1 (F := F) main_arg6 main_arg7 main_arg8 main_arg9 main_arg10 main_arg11 main_arg12 main_v3 main_v7 main_v11 main_v15
-- ==== Kernel.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S64x1024 : Shape := ⟨2, ![64, 1024]⟩
abbrev S64 : Shape := ⟨1, ![64]⟩
abbrev S1024x64 : Shape := ⟨2, ![1024, 64]⟩
abbrev S64x4096 : Shape := ⟨2, ![64, 4096]⟩
abbrev S4096x64 : Shape := ⟨2, ![4096, 64]⟩
abbrev S4096x1 : Shape := ⟨2, ![4096, 1]⟩
abbrev S4096x256 : Shape := ⟨2, ![4096, 256]⟩
abbrev S1024x1 : Shape := ⟨2, ![1024, 1]⟩
abbrev S1024x256 : Shape := ⟨2, ![1024, 256]⟩
abbrev S512x1024 : Shape := ⟨2, ![512, 1024]⟩
abbrev S256x1024 : Shape := ⟨2, ![256, 1024]⟩
abbrev S64x256 : Shape := ⟨2, ![64, 256]⟩
abbrev S128x8x256 : Shape := ⟨3, ![128, 8, 256]⟩
abbrev S1x8x1 : Shape := ⟨3, ![1, 8, 1]⟩
abbrev S128x1x256 : Shape := ⟨3, ![128, 1, 256]⟩
abbrev S512x8x256 : Shape := ⟨3, ![512, 8, 256]⟩
abbrev S512x1x256 : Shape := ⟨3, ![512, 1, 256]⟩

abbrev nBuf : Space → Nat
  | .hbm => 26
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S64x1024, .f32⟩
  | .hbm, ⟨6, _⟩ => ⟨S64, .f32⟩
  | .hbm, ⟨7, _⟩ => ⟨S1024x64, .f32⟩
  | .hbm, ⟨8, _⟩ => ⟨S1024, .f32⟩
  | .hbm, ⟨9, _⟩ => ⟨S64x4096, .f32⟩
  | .hbm, ⟨10, _⟩ => ⟨S64, .f32⟩
  | .hbm, ⟨11, _⟩ => ⟨S4096x64, .f32⟩
  | .hbm, ⟨12, _⟩ => ⟨S4096, .f32⟩
  | .hbm, ⟨13, _⟩ => ⟨S4096x1024, .bf16⟩
  | .hbm, ⟨14, _⟩ => ⟨S1024x4096, .bf16⟩
  | .hbm, ⟨15, _⟩ => ⟨S64x1024, .bf16⟩
  | .hbm, ⟨16, _⟩ => ⟨S1024x64, .bf16⟩
  | .hbm, ⟨17, _⟩ => ⟨S64x4096, .bf16⟩
  | .hbm, ⟨18, _⟩ => ⟨S4096x64, .bf16⟩
  | .hbm, ⟨19, _⟩ => ⟨S4096x1, .f32⟩
  | .hbm, ⟨20, _⟩ => ⟨S4096x256, .f32⟩
  | .hbm, ⟨21, _⟩ => ⟨S1024x1, .f32⟩
  | .hbm, ⟨22, _⟩ => ⟨S1024x256, .f32⟩
  | .hbm, ⟨23, _⟩ => ⟨S4096x1024, .f32⟩
  | .hbm, ⟨24, _⟩ => ⟨S4096x1024, .f32⟩
  | .hbm, ⟨25, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S64x1024, .bf16⟩
  | .local _ .vmem, ⟨3, _⟩ => ⟨S1024x64, .bf16⟩
  | .local _ .vmem, ⟨4, _⟩ => ⟨S4096x1024, .bf16⟩
  | .local _ .vmem, ⟨5, _⟩ => ⟨S4096x256, .f32⟩
  | .local _ .vmem, ⟨6, _⟩ => ⟨S64x4096, .bf16⟩
  | .local _ .vmem, ⟨7, _⟩ => ⟨S4096x64, .bf16⟩
  | .local _ .vmem, ⟨8, _⟩ => ⟨S1024x4096, .bf16⟩
  | .local _ .vmem, ⟨9, _⟩ => ⟨S1024x256, .f32⟩
  | .local _ .vmem, ⟨10, _⟩ => ⟨S512x1024, .f32⟩
  | .local _ .vmem, ⟨11, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S64x1024 : Shape := ⟨2, ![64, 1024]⟩
abbrev S64 : Shape := ⟨1, ![64]⟩
abbrev S1024x64 : Shape := ⟨2, ![1024, 64]⟩
abbrev S64x4096 : Shape := ⟨2, ![64, 4096]⟩
abbrev S4096x64 : Shape := ⟨2, ![4096, 64]⟩
abbrev S2x2048x64 : Shape := ⟨3, ![2, 2048, 64]⟩
abbrev S1x1x64 : Shape := ⟨3, ![1, 1, 64]⟩
abbrev S1x1x1024 : Shape := ⟨3, ![1, 1, 1024]⟩
abbrev S2x2048x128x8 : Shape := ⟨4, ![2, 2048, 128, 8]⟩
abbrev S_ : Shape := ⟨0, ![]⟩
abbrev S2x2048x128 : Shape := ⟨3, ![2, 2048, 128]⟩
abbrev S2x2048x128x1 : Shape := ⟨4, ![2, 2048, 128, 1]⟩
abbrev S2x2048x128x8x1 : Shape := ⟨5, ![2, 2048, 128, 8, 1]⟩
abbrev S1 : Shape := ⟨1, ![1]⟩
abbrev S1x1x1x1x1 : Shape := ⟨5, ![1, 1, 1, 1, 1]⟩
abbrev S2x2048x128x6 : Shape := ⟨4, ![2, 2048, 128, 6]⟩
abbrev S2x2048x4096 : Shape := ⟨3, ![2, 2048, 4096]⟩
abbrev S1x1x4096 : Shape := ⟨3, ![1, 1, 4096]⟩
abbrev S2x2048x512x8 : Shape := ⟨4, ![2, 2048, 512, 8]⟩
abbrev S2x2048x512 : Shape := ⟨3, ![2, 2048, 512]⟩
abbrev S2x2048x512x1 : Shape := ⟨4, ![2, 2048, 512, 1]⟩
abbrev S2x2048x512x8x1 : Shape := ⟨5, ![2, 2048, 512, 8, 1]⟩
abbrev S2x2048x512x6 : Shape := ⟨4, ![2, 2048, 512, 6]⟩

abbrev nBuf : Space → Nat
  | .hbm => 192
  | .vmem => 0
  | .smem => 0
  | _ => 0

abbrev hbmTy0_0 (i : Nat) : BufTy := match i % 128 with
  | 0 => ⟨S2x2048x1024, .f32⟩
  | 1 => ⟨S4096x1024, .f32⟩
  | 2 => ⟨S4096, .f32⟩
  | 3 => ⟨S1024x4096, .f32⟩
  | 4 => ⟨S1024, .f32⟩
  | 5 => ⟨S64x1024, .f32⟩
  | 6 => ⟨S64, .f32⟩
  | 7 => ⟨S1024x64, .f32⟩
  | 8 => ⟨S1024, .f32⟩
  | 9 => ⟨S64x4096, .f32⟩
  | 10 => ⟨S64, .f32⟩
  | 11 => ⟨S4096x64, .f32⟩
  | 12 => ⟨S4096, .f32⟩
  | 13 => ⟨S1024x64, .f32⟩
  | 14 => ⟨S2x2048x64, .f32⟩
  | 15 => ⟨S1x1x64, .f32⟩
  | 16 => ⟨S2x2048x64, .f32⟩
  | 17 => ⟨S2x2048x64, .f32⟩
  | 18 => ⟨S64x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S2x2048x128x8, .f32⟩
  | 24 => ⟨S_, .f32⟩
  | 25 => ⟨S2x2048x128, .f32⟩
  | 26 => ⟨S_, .f32⟩
  | 27 => ⟨S2x2048x128, .f32⟩
  | 28 => ⟨S2x2048x128, .f32⟩
  | 29 => ⟨S2x2048x128x1, .f32⟩
  | 30 => ⟨S2x2048x128x8, .f32⟩
  | 31 => ⟨S2x2048x128x8, .f32⟩
  | 32 => ⟨S2x2048x128x8, .f32⟩
  | 33 => ⟨S_, .f32⟩
  | 34 => ⟨S2x2048x128, .f32⟩
  | 35 => ⟨S2x2048x128x1, .f32⟩
  | 36 => ⟨S2x2048x128x8, .f32⟩
  | 37 => ⟨S2x2048x128x8, .f32⟩
  | 38 => ⟨S2x2048x128x8, .f32⟩
  | 39 => ⟨S2x2048x128x8, .i32⟩
  | 40 => ⟨S2x2048x128x8, .f32⟩
  | 41 => ⟨S2x2048x128x8, .i32⟩
  | 42 => ⟨S_, .i32⟩
  | 43 => ⟨S2x2048x128x8, .i32⟩
  | 44 => ⟨S2x2048x128x8, .i1⟩
  | 45 => ⟨S_, .i32⟩
  | 46 => ⟨S2x2048x128x8, .i32⟩
  | 47 => ⟨S2x2048x128x8, .i32⟩
  | 48 => ⟨S2x2048x128x8, .i32⟩
  | 49 => ⟨S2x2048x128x8x1, .i32⟩
  | 50 => ⟨S1, .i32⟩
  | 51 => ⟨S_, .i32⟩
  | 52 => ⟨S2x2048x128x8x1, .i32⟩
  | 53 => ⟨S2x2048x128x8x1, .i1⟩
  | 54 => ⟨S1x1x1x1x1, .i32⟩
  | 55 => ⟨S2x2048x128x8x1, .i32⟩
  | 56 => ⟨S2x2048x128x8x1, .i1⟩
  | 57 => ⟨S2x2048x128x8x1, .i1⟩
  | 58 => ⟨S_, .i1⟩
  | 59 => ⟨S2x2048x128x8, .i1⟩
  | 60 => ⟨S2x2048x128x8, .f32⟩
  | 61 => ⟨S_, .f32⟩
  | 62 => ⟨S2x2048x128x8, .f32⟩
  | 63 => ⟨S2x2048x128x8, .f32⟩
  | 64 => ⟨S_, .i32⟩
  | 65 => ⟨S1, .i32⟩
  | 66 => ⟨S_, .f32⟩
  | 67 => ⟨S2x2048x128x6, .f32⟩
  | 68 => ⟨S2x2048x128x8, .f32⟩
  | 69 => ⟨S2x2048x128x8, .i32⟩
  | 70 => ⟨S2x2048x128x8, .i32⟩
  | 71 => ⟨S2x2048x128x8, .i32⟩
  | 72 => ⟨S_, .i32⟩
  | 73 => ⟨S2x2048x128x8, .i32⟩
  | 74 => ⟨S2x2048x128x8, .i1⟩
  | 75 => ⟨S_, .i32⟩
  | 76 => ⟨S2x2048x128x8, .i32⟩
  | 77 => ⟨S2x2048x128x8, .i32⟩
  | 78 => ⟨S2x2048x128x8, .i32⟩
  | 79 => ⟨S2x2048x128x8x1, .i32⟩
  | 80 => ⟨S1, .i32⟩
  | 81 => ⟨S_, .i32⟩
  | 82 => ⟨S2x2048x128x8x1, .i32⟩
  | 83 => ⟨S2x2048x128x8x1, .i1⟩
  | 84 => ⟨S1x1x1x1x1, .i32⟩
  | 85 => ⟨S2x2048x128x8x1, .i32⟩
  | 86 => ⟨S2x2048x128x8x1, .i1⟩
  | 87 => ⟨S2x2048x128x8x1, .i1⟩
  | 88 => ⟨S_, .i1⟩
  | 89 => ⟨S2x2048x128x8, .i1⟩
  | 90 => ⟨S2x2048x128x8, .f32⟩
  | 91 => ⟨S_, .f32⟩
  | 92 => ⟨S2x2048x128x8, .f32⟩
  | 93 => ⟨S2x2048x128x8, .f32⟩
  | 94 => ⟨S2x2048x1024, .f32⟩
  | 95 => ⟨S2x2048x1024, .f32⟩
  | 96 => ⟨S1024x4096, .f32⟩
  | 97 => ⟨S2x2048x4096, .f32⟩
  | 98 => ⟨S1x1x4096, .f32⟩
  | 99 => ⟨S2x2048x4096, .f32⟩
  | 100 => ⟨S2x2048x4096, .f32⟩
  | 101 => ⟨S_, .f32⟩
  | 102 => ⟨S2x2048x4096, .f32⟩
  | 103 => ⟨S2x2048x4096, .f32⟩
  | 104 => ⟨S4096x64, .f32⟩
  | 105 => ⟨S2x2048x64, .f32⟩
  | 106 => ⟨S1x1x64, .f32⟩
  | 107 => ⟨S2x2048x64, .f32⟩
  | 108 => ⟨S2x2048x64, .f32⟩
  | 109 => ⟨S64x4096, .f32⟩
  | 110 => ⟨S2x2048x4096, .f32⟩
  | 111 => ⟨S1x1x4096, .f32⟩
  | 112 => ⟨S2x2048x4096, .f32⟩
  | 113 => ⟨S2x2048x4096, .f32⟩
  | 114 => ⟨S2x2048x512x8, .f32⟩
  | 115 => ⟨S_, .f32⟩
  | 116 => ⟨S2x2048x512, .f32⟩
  | 117 => ⟨S_, .f32⟩
  | 118 => ⟨S2x2048x512, .f32⟩
  | 119 => ⟨S2x2048x512, .f32⟩
  | 120 => ⟨S2x2048x512x1, .f32⟩
  | 121 => ⟨S2x2048x512x8, .f32⟩
  | 122 => ⟨S2x2048x512x8, .f32⟩
  | 123 => ⟨S2x2048x512x8, .f32⟩
  | 124 => ⟨S_, .f32⟩
  | 125 => ⟨S2x2048x512, .f32⟩
  | 126 => ⟨S2x2048x512x1, .f32⟩
  | 127 => ⟨S2x2048x512x8, .f32⟩
  | _ => ⟨S2x2048x1024, .f32⟩

abbrev hbmTy0_1 (i : Nat) : BufTy := match i % 128 with
  | 0 => ⟨S2x2048x512x8, .f32⟩
  | 1 => ⟨S2x2048x512x8, .f32⟩
  | 2 => ⟨S2x2048x512x8, .i32⟩
  | 3 => ⟨S2x2048x512x8, .f32⟩
  | 4 => ⟨S2x2048x512x8, .i32⟩
  | 5 => ⟨S_, .i32⟩
  | 6 => ⟨S2x2048x512x8, .i32⟩
  | 7 => ⟨S2x2048x512x8, .i1⟩
  | 8 => ⟨S_, .i32⟩
  | 9 => ⟨S2x2048x512x8, .i32⟩
  | 10 => ⟨S2x2048x512x8, .i32⟩
  | 11 => ⟨S2x2048x512x8, .i32⟩
  | 12 => ⟨S2x2048x512x8x1, .i32⟩
  | 13 => ⟨S1, .i32⟩
  | 14 => ⟨S_, .i32⟩
  | 15 => ⟨S2x2048x512x8x1, .i32⟩
  | 16 => ⟨S2x2048x512x8x1, .i1⟩
  | 17 => ⟨S1x1x1x1x1, .i32⟩
  | 18 => ⟨S2x2048x512x8x1, .i32⟩
  | 19 => ⟨S2x2048x512x8x1, .i1⟩
  | 20 => ⟨S2x2048x512x8x1, .i1⟩
  | 21 => ⟨S_, .i1⟩
  | 22 => ⟨S2x2048x512x8, .i1⟩
  | 23 => ⟨S2x2048x512x8, .f32⟩
  | 24 => ⟨S_, .f32⟩
  | 25 => ⟨S2x2048x512x8, .f32⟩
  | 26 => ⟨S2x2048x512x8, .f32⟩
  | 27 => ⟨S_, .i32⟩
  | 28 => ⟨S1, .i32⟩
  | 29 => ⟨S_, .f32⟩
  | 30 => ⟨S2x2048x512x6, .f32⟩
  | 31 => ⟨S2x2048x512x8, .f32⟩
  | 32 => ⟨S2x2048x512x8, .i32⟩
  | 33 => ⟨S2x2048x512x8, .i32⟩
  | 34 => ⟨S2x2048x512x8, .i32⟩
  | 35 => ⟨S_, .i32⟩
  | 36 => ⟨S2x2048x512x8, .i32⟩
  | 37 => ⟨S2x2048x512x8, .i1⟩
  | 38 => ⟨S_, .i32⟩
  | 39 => ⟨S2x2048x512x8, .i32⟩
  | 40 => ⟨S2x2048x512x8, .i32⟩
  | 41 => ⟨S2x2048x512x8, .i32⟩
  | 42 => ⟨S2x2048x512x8x1, .i32⟩
  | 43 => ⟨S1, .i32⟩
  | 44 => ⟨S_, .i32⟩
  | 45 => ⟨S2x2048x512x8x1, .i32⟩
  | 46 => ⟨S2x2048x512x8x1, .i1⟩
  | 47 => ⟨S1x1x1x1x1, .i32⟩
  | 48 => ⟨S2x2048x512x8x1, .i32⟩
  | 49 => ⟨S2x2048x512x8x1, .i1⟩
  | 50 => ⟨S2x2048x512x8x1, .i1⟩
  | 51 => ⟨S_, .i1⟩
  | 52 => ⟨S2x2048x512x8, .i1⟩
  | 53 => ⟨S2x2048x512x8, .f32⟩
  | 54 => ⟨S_, .f32⟩
  | 55 => ⟨S2x2048x512x8, .f32⟩
  | 56 => ⟨S2x2048x512x8, .f32⟩
  | 57 => ⟨S2x2048x4096, .f32⟩
  | 58 => ⟨S2x2048x4096, .f32⟩
  | 59 => ⟨S4096x1024, .f32⟩
  | 60 => ⟨S2x2048x1024, .f32⟩
  | 61 => ⟨S1x1x1024, .f32⟩
  | 62 => ⟨S2x2048x1024, .f32⟩
  | 63 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1_0 : Ref sig .tc := ⟨.hbm, 40, rfl⟩
abbrev main_v23 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v24 : Ref sig .tc := ⟨.hbm, 63, rfl⟩
abbrev main_c : Ref sig .tc := ⟨.hbm, 64, rfl⟩
abbrev main_v25 : Ref sig .tc := ⟨.hbm, 65, rfl⟩
abbrev main_cst_2 : Ref sig .tc := ⟨.hbm, 66, rfl⟩
abbrev main_v26 : Ref sig .tc := ⟨.hbm, 67, rfl⟩
abbrev main_v27 : Ref sig .tc := ⟨.hbm, 68, rfl⟩
abbrev main_call2_v0 : Ref sig .tc := ⟨.hbm, 69, rfl⟩
abbrev main_call2_v1_0 : Ref sig .tc := ⟨.hbm, 70, rfl⟩
abbrev main_v28 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_call4_cst : Ref sig .tc := ⟨.hbm, 101, rfl⟩
abbrev main_call4_v0 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_3 : Ref sig .tc := ⟨.hbm, 115, rfl⟩
abbrev main_v49 : Ref sig .tc := ⟨.hbm, 116, rfl⟩
abbrev main_cst_4 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_5 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_call5_v0 : Ref sig .tc := ⟨.hbm, 130, rfl⟩
abbrev main_call5_v1_0 : Ref sig .tc := ⟨.hbm, 131, rfl⟩
abbrev main_v61 : Ref sig .tc := ⟨.hbm, 132, rfl⟩
abbrev main_call6_c : Ref sig .tc := ⟨.hbm, 133, rfl⟩
abbrev main_call6_v0 : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_c_1 : Ref sig .tc := ⟨.hbm, 141, rfl⟩
abbrev main_call6_c_2 : Ref sig .tc := ⟨.hbm, 142, rfl⟩
abbrev main_call6_v6 : Ref sig .tc := ⟨.hbm, 143, rfl⟩
abbrev main_call6_v7 : Ref sig .tc := ⟨.hbm, 144, rfl⟩
abbrev main_call6_v8 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_3 : Ref sig .tc := ⟨.hbm, 149, rfl⟩
abbrev main_call6_v12 : Ref sig .tc := ⟨.hbm, 150, rfl⟩
abbrev main_call6_v13 : Ref sig .tc := ⟨.hbm, 151, rfl⟩
abbrev main_call6_cst : Ref sig .tc := ⟨.hbm, 152, rfl⟩
abbrev main_call6_v14 : Ref sig .tc := ⟨.hbm, 153, rfl⟩
abbrev main_v62 : Ref sig .tc := ⟨.hbm, 154, rfl⟩
abbrev main_c_6 : Ref sig .tc := ⟨.hbm, 155, rfl⟩
abbrev main_v63 : Ref sig .tc := ⟨.hbm, 156, rfl⟩
abbrev main_cst_7 : Ref sig .tc := ⟨.hbm, 157, rfl⟩
abbrev main_v64 : Ref sig .tc := ⟨.hbm, 158, rfl⟩
abbrev main_v65 : Ref sig .tc := ⟨.hbm, 159, rfl⟩
abbrev main_call7_v0 : Ref sig .tc := ⟨.hbm, 160, rfl⟩
abbrev main_call7_v1_0 : Ref sig .tc := ⟨.hbm, 161, rfl⟩
abbrev main_v66 : Ref sig .tc := ⟨.hbm, 162, rfl⟩
abbrev main_call8_c : Ref sig .tc := ⟨.hbm, 163, rfl⟩
abbrev main_call8_v0 : Ref sig .tc := ⟨.hbm, 164, rfl⟩
abbrev main_call8_v1 : Ref sig .tc := ⟨.hbm, 165, rfl⟩
abbrev main_call8_c_0 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_call8_v5 : Ref sig .tc := ⟨.hbm, 170, rfl⟩
abbrev main_call8_c_1 : Ref sig .tc := ⟨.hbm, 171, rfl⟩
abbrev main_call8_c_2 : Ref sig .tc := ⟨.hbm, 172, rfl⟩
abbrev main_call8_v6 : Ref sig .tc := ⟨.hbm, 173, rfl⟩
abbrev main_call8_v7 : Ref sig .tc := ⟨.hbm, 174, rfl⟩
abbrev main_call8_v8 : Ref sig .tc := ⟨.hbm, 175, rfl⟩
abbrev main_call8_v9 : Ref sig .tc := ⟨.hbm, 176, rfl⟩
abbrev main_call8_v10 : Ref sig .tc := ⟨.hbm, 177, rfl⟩
abbrev main_call8_v11 : Ref sig .tc := ⟨.hbm, 178, rfl⟩
abbrev main_call8_c_3 : Ref sig .tc := ⟨.hbm, 179, rfl⟩
abbrev main_call8_v12 : Ref sig .tc := ⟨.hbm, 180, rfl⟩
abbrev main_call8_v13 : Ref sig .tc := ⟨.hbm, 181, rfl⟩
abbrev main_call8_cst : Ref sig .tc := ⟨.hbm, 182, rfl⟩
abbrev main_call8_v14 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩

abbrev nD : Nat := 1
abbrev τ : Topo := Topo.v7x

variable {F : FTy → Type} [FloatOps F]
-- ==== Proof.Frames.lean ====
/-
  The frames: each program runs from any memory, faults nowhere, leaves its
  thirteen arguments as they were and every semaphore counter at zero.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel at the bit-exact floats keeps its arguments and ends quiescent. -/
theorem frame_kernel : Cert.quiescent_Kernel (hKernel := Cert.Kernel.Gen.facts) :=
  fun m ρ _ => Cert.Kernel.Gen.frame m ρ

/-- The kernel at the exact floats keeps its arguments and ends quiescent. -/
theorem frame_ideal : Cert.quiescent_KernelIdeal (hKernelIdeal := Cert.KernelIdeal.Gen.facts) :=
  fun m ρ _ => Cert.KernelIdeal.Gen.frame m ρ

/-- The reference at the exact floats keeps its arguments and ends quiescent; it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Gate.lean ====
/- The gate of one group of eight lanes, on extended reals.

   A group of eight scores keeps two of its lanes: those of least rank, where the rank of a lane is the number of lanes
   that stand before it (a greater score, or an equal score at a lower index). A kept lane weighs its softmax
   probability, every other lane weighs zero. -/
module

public import Idealize.ShloMosaic.PureOps.Ideal
public import Idealize.ShloMosaic.PureOps.Ideal.Laws

@[expose] public section

noncomputable section

namespace Cert.Proof

open Idealize.ShloMosaic

/-- The number of lanes that stand before lane `k`: a greater score, or an equal one at a lower index. -/
def rank (g : Fin 8 → EReal) (k : Fin 8) : Nat :=
  (Finset.univ.filter fun j => g k < g j ∨ (g j = g k ∧ j < k)).card

/-- The number of lanes that lane `k` stands before. -/
def beaten (g : Fin 8 → EReal) (k : Fin 8) : Nat :=
  (Finset.univ.filter fun j => g j < g k ∨ (g k = g j ∧ k < j)).card

/-- The weight of lane `k`: its softmax probability if at most one lane stands before it, and zero if not. -/
def gateW (g : Fin 8 → EReal) (k : Fin 8) : EReal :=
  if rank g k < 2 then Ideal.div (Ideal.exp (g k)) (∑ j, Ideal.exp (g j)) else 0

/-- The lanes before a lane, the lane itself and the lanes behind it are the whole group. -/
theorem rank_add_beaten (g : Fin 8 → EReal) (k : Fin 8) : rank g k + beaten g k = 7 := by
  have hd : Disjoint (Finset.univ.filter fun j => g k < g j ∨ (g j = g k ∧ j < k))
      (Finset.univ.filter fun j => g j < g k ∨ (g k = g j ∧ k < j)) := by
    rw [Finset.disjoint_filter]
    rintro j - (h | ⟨h, h'⟩) (i | ⟨i, i'⟩)
    · exact lt_asymm h i
    · exact h.ne i
    · exact i.ne h
    · exact lt_asymm h' i'
  have hu : (Finset.univ.filter fun j => g k < g j ∨ (g j = g k ∧ j < k)) ∪
      (Finset.univ.filter fun j => g j < g k ∨ (g k = g j ∧ k < j)) = Finset.univ.erase k := by
    ext j
    simp only [Finset.mem_union, Finset.mem_filter, Finset.mem_univ, true_and, Finset.mem_erase, and_true]
    constructor
    · rintro ((h | ⟨-, h⟩) | (h | ⟨-, h⟩)) rfl
      all_goals exact lt_irrefl _ h
    · intro hne
      rcases lt_trichotomy (g k) (g j) with h | h | h
      · exact .inl (.inl h)
      · rcases lt_or_gt_of_ne hne with h' | h'
        · exact .inl (.inr ⟨h.symm, h'⟩)
        · exact .inr (.inr ⟨h, h'⟩)
      · exact .inr (.inl h)
  have hc := congrArg Finset.card hu
  rw [Finset.card_union_of_disjoint hd, Finset.card_erase_of_mem (Finset.mem_univ k)] at hc
  simpa [rank, beaten] using hc

/-- A lane that stands before another has the smaller rank. -/
theorem rank_lt (g : Fin 8 → EReal) {a b : Fin 8} (h : g b < g a ∨ (g a = g b ∧ a < b)) : rank g a < rank g b := by
  refine Finset.card_lt_card (Finset.ssubset_iff_of_subset ?_ |>.mpr ⟨a, ?_, ?_⟩)
  · intro j
    simp only [Finset.mem_filter, Finset.mem_univ, true_and]
    rintro (i | ⟨i, i'⟩)
    · rcases h with h | ⟨h, -⟩
      · exact .inl (h.trans i)
      · exact .inl (h ▸ i)
    · rcases h with h | ⟨h, h'⟩
      · exact .inl (i ▸ h)
      · exact .inr ⟨i.trans h, i'.trans h'⟩
  · simpa using h
  · simp

/-- Two lanes have two ranks. -/
theorem rank_injective (g : Fin 8 → EReal) : Function.Injective (rank g) := by
  intro a b hab
  by_contra hne
  rcases lt_trichotomy (g a) (g b) with h | h | h
  · exact absurd hab (rank_lt g (.inl h)).ne'
  · rcases lt_or_gt_of_ne hne with h' | h'
    · exact absurd hab (rank_lt g (.inr ⟨h, h'⟩)).ne
    · exact absurd hab (rank_lt g (.inr ⟨h.symm, h'⟩)).ne'
  · exact absurd hab (rank_lt g (.inl h)).ne

/-- A rank is below eight. -/
theorem rank_lt_eight (g : Fin 8 → EReal) (k : Fin 8) : rank g k < 8 := by
  have := rank_add_beaten g k
  omega

/-- Every rank below eight is some lane's. -/
theorem exists_rank (g : Fin 8 → EReal) (r : Nat) (hr : r < 8) : ∃ k, rank g k = r := by
  have hinj : Function.Injective fun k => (⟨rank g k, rank_lt_eight g k⟩ : Fin 8) :=
    fun a b h => rank_injective g (congrArg Fin.val h)
  obtain ⟨k, hk⟩ := (Finite.injective_iff_surjective.mp hinj) ⟨r, hr⟩
  exact ⟨k, congrArg Fin.val hk⟩

/-- Ranks depend only on the order of the scores. -/
theorem rank_congr {g p : Fin 8 → EReal} (h : ∀ a b, p a < p b ↔ g a < g b) (k : Fin 8) : rank p k = rank g k := by
  have he : ∀ a b, p a = p b ↔ g a = g b := by
    intro a b
    rw [le_antisymm_iff, le_antisymm_iff, ← not_lt, ← not_lt, ← not_lt, ← not_lt, h, h]
  unfold rank
  congr 1
  ext j
  simp only [Finset.mem_filter, h, he]

/-- Lanes beaten depend only on the order of the scores. -/
theorem beaten_congr {g p : Fin 8 → EReal} (h : ∀ a b, p a < p b ↔ g a < g b) (k : Fin 8) :
    beaten p k = beaten g k := by
  have h1 := rank_add_beaten p k
  have h2 := rank_add_beaten g k
  have h3 := rank_congr h k
  omega

/-- The exponential keeps the order. -/
theorem exp_lt_exp (a b : EReal) : Ideal.exp a < Ideal.exp b ↔ a < b := by
  induction a <;> induction b <;>
    simp [Ideal.exp_bot, Ideal.exp_top, Ideal.exp_coe, EReal.coe_lt_coe_iff, Real.exp_pos, EReal.coe_lt_top,
      Real.exp_nonneg]

/-- The lane `s` places before lane `k`, around the group. -/
def turn (k : Fin 8) (s : Nat) : Fin 8 := ⟨(k.val + 8 - s) % 8, Nat.mod_lt _ (by decide)⟩

/-- The combination of eight lanes around lane `k`: each lane with its neighbour, then pairs, then fours. -/
def around (op : EReal → EReal → EReal) (x : Fin 8 → EReal) (k : Fin 8) : EReal :=
  op (op (op (x k) (x (turn k 1))) (op (x (turn k 2)) (x (turn (turn k 2) 1))))
    (op (op (x (turn k 4)) (x (turn (turn k 4) 1)))
      (op (x (turn (turn k 4) 2)) (x (turn (turn (turn k 4) 2) 1))))

/-- The sum around any lane is the sum of the group. -/
theorem around_add (x : Fin 8 → EReal) (k : Fin 8) : around (· + ·) x k = ∑ j, x j := by
  rw [Fin.sum_univ_eight]
  unfold around
  match k with
  | 0 | 1 | 2 | 3 | 4 | 5 | 6 | 7 => simp [turn]; abel

/-- The maximum around a lane is at most a bound exactly when every lane is. -/
theorem around_max_le (x : Fin 8 → EReal) (k : Fin 8) (M : EReal) : around max x k ≤ M ↔ ∀ j, x j ≤ M := by
  unfold around
  match k with
  | 0 | 1 | 2 | 3 | 4 | 5 | 6 | 7 => simp [turn, Fin.forall_fin_succ]; tauto

/-- The maximum around any lane is the group's greatest value. -/
theorem around_max (x : Fin 8 → EReal) (k : Fin 8) (M : EReal) (hle : ∀ j, x j ≤ M) (hM : ∃ j, x j = M) :
    around max x k = M := by
  refine le_antisymm ((around_max_le x k M).mpr hle) ?_
  obtain ⟨j, rfl⟩ := hM
  exact (around_max_le x k _).mp le_rfl j

/-- The number of lanes beaten, as a value. -/
def key (e : Fin 8 → EReal) (k : Fin 8) : EReal := ((beaten e k : ℝ) : EReal)

/-- Keys compare as the numbers of beaten lanes do. -/
theorem key_le_key (e : Fin 8 → EReal) (a b : Fin 8) : key e a ≤ key e b ↔ beaten e a ≤ beaten e b := by
  simp [key, EReal.coe_le_coe_iff]

/-- The greatest key of a group is seven. -/
theorem around_key (e : Fin 8 → EReal) (k : Fin 8) : around max (key e) k = ((7 : ℝ) : EReal) := by
  refine around_max _ _ _ (fun j => ?_) ?_
  · have := rank_add_beaten e j
    have h : beaten e j ≤ 7 := by omega
    exact EReal.coe_le_coe_iff.mpr (by exact_mod_cast h)
  · obtain ⟨j, hj⟩ := exists_rank e 0 (by omega)
    have := rank_add_beaten e j
    exact ⟨j, by rw [key, show beaten e j = 7 by omega]; norm_num⟩

/-- With the greatest key set to minus one, the greatest left is six. -/
theorem around_second (e : Fin 8 → EReal) (k : Fin 8) :
    around max (fun j => if key e j = ((7 : ℝ) : EReal) then ((-1 : ℝ) : EReal) else key e j) k = ((6 : ℝ) : EReal) := by
  have h7 : ∀ j, key e j = ((7 : ℝ) : EReal) ↔ beaten e j = 7 := by
    intro j
    rw [key, EReal.coe_eq_coe_iff]
    norm_cast
  refine around_max _ _ _ (fun j => ?_) ?_
  · simp only [h7]
    split
    · exact EReal.coe_le_coe_iff.mpr (by norm_num)
    · have := rank_add_beaten e j
      have h : beaten e j ≤ 6 := by omega
      exact EReal.coe_le_coe_iff.mpr (by exact_mod_cast h)
  · obtain ⟨j, hj⟩ := exists_rank e 1 (by omega)
    have := rank_add_beaten e j
    have h6 : beaten e j = 6 := by omega
    refine ⟨j, ?_⟩
    simp only [h7]
    rw [if_neg (by omega), key, h6]
    norm_num

/-- A key of at least six is a rank below two. -/
theorem six_le_key (e : Fin 8 → EReal) (k : Fin 8) : ((6 : ℝ) : EReal) ≤ key e k ↔ rank e k < 2 := by
  have := rank_add_beaten e k
  rw [key, EReal.coe_le_coe_iff]
  have h : ((6 : ℝ) ≤ (beaten e k : ℝ)) ↔ 6 ≤ beaten e k := by norm_cast
  rw [h]
  omega

/-- The key, summed up lane by lane from zero. -/
theorem key_eq_sum (e : Fin 8 → EReal) (k : Fin 8) :
    key e k = ∑ j, if e j < e k ∨ (e k = e j ∧ k < j) then (1 : EReal) else 0 := by
  unfold key beaten
  rw [Finset.sum_ite, Finset.sum_const_zero, add_zero, Finset.sum_const, nsmul_one]
  norm_cast

end Cert.Proof

end
-- ==== Proof.KernelGate.lean ====
/- The kernel's gate over `G` groups of eight lanes and 256 columns, read at one lane of one group.

   The kernel sums and maximises a group by combining it with itself turned by one, two and four lanes. It gives each
   lane a key, the number of lanes it beats, and keeps the lanes whose key is at least the second greatest. -/
module

public import Idealize.ShloMosaic.Lib.Pointwise
public import Idealize.ShloMosaic.Lib.Pointwise.IndexVar
public import proofs.«01_k».proof.Proof.Gate

@[expose] public section

noncomputable section

namespace Cert.Proof

open Idealize.ShloMosaic

/-- `G` groups of eight lanes, 256 columns. -/
abbrev Groups (G : Nat) : Shape := ⟨3, ![G, 8, 256]⟩
/-- One lane of each of `G` groups, 256 columns. -/
abbrev Lane (G : Nat) : Shape := ⟨3, ![G, 1, 256]⟩
/-- The eight lane numbers. -/
abbrev Numbers : Shape := ⟨3, ![1, 8, 1]⟩

/-- The shape facts that the gate's operations carry. -/
structure GateFacts (G : Nat) : Prop where
  several : G ≠ 1
  turns : (Groups G).Rotates 1 none
  lane : ∀ c : Nat, c < 8 → (Groups G).Slices ![0, c, 0] (Lane G)
  spread : (Lane G).Broadcasts (Groups G)
  numbers : Numbers.Iotas .tc 32 [1]
  spreadNumbers : Numbers.Broadcasts (Groups G)

variable {G : Nat} (F : GateFacts G)

/-- The sum of each group, in every lane. -/
def sums (x : FVec Ideal (Groups G) .f32) : FVec Ideal (Groups G) .f32 :=
  have a := addf x (dynamicRotate 1 1#32 none x F.turns)
  have b := addf a (dynamicRotate 1 2#32 none a F.turns)
  addf b (dynamicRotate 1 4#32 none b F.turns)

/-- The greatest value of each group, in every lane. -/
def maxima (x : FVec Ideal (Groups G) .f32) : FVec Ideal (Groups G) .f32 :=
  have a := maximumf x (dynamicRotate 1 1#32 none x F.turns)
  have b := maximumf a (dynamicRotate 1 2#32 none a F.turns)
  maximumf b (dynamicRotate 1 4#32 none b F.turns)

/-- The comparison of every lane with lane `c`: one where it beats lane `c`, added to the count `q`. -/
def beatStep (c : Fin 8) (e q : FVec Ideal (Groups G) .f32) : FVec Ideal (Groups G) .f32 :=
  have d := extractStridedSlice (Lane G) ![0, c.val, 0] e (F.lane c.val c.isLt)
  addf q (select
    (ori (cmpf .ogt e (broadcastTo (Groups G) d F.spread))
      (andi (cmpf .oeq e (broadcastTo (Groups G) d F.spread))
        (broadcastTo (Groups G)
          (cmpi .slt (iota .tc Numbers 32 [1] F.numbers) (broadcast Numbers (BitVec.ofNat 32 c.val))) F.spreadNumbers)))
    (broadcast (Groups G) (Scalar.ofBits (F := Ideal) .f32 0x3F800000#32))
    (broadcast (Groups G) (Scalar.ofBits (F := Ideal) .f32 0x00000000#32)))

/-- The key of every lane. -/
def keys (e : FVec Ideal (Groups G) .f32) : FVec Ideal (Groups G) .f32 :=
  beatStep F 7 e <| beatStep F 6 e <| beatStep F 5 e <|
    beatStep F 4 e <| beatStep F 3 e <| beatStep F 2 e <|
    beatStep F 1 e <| beatStep F 0 e <|
    broadcast (Groups G) (Scalar.ofBits (F := Ideal) .f32 0x00000000#32)

/-- The weights: the quotient by the group's sum in the lanes whose key is among the two greatest, zero elsewhere. -/
def weights (e : FVec Ideal (Groups G) .f32) : FVec Ideal (Groups G) .f32 :=
  have q := keys F e
  have t := select (cmpf .oeq q (maxima F q)) (broadcast (Groups G) (Scalar.ofBits (F := Ideal) .f32 0xBF800000#32)) q
  select (cmpf .oge q (maxima F t)) (divf e (sums F e))
    (broadcast (Groups G) (Scalar.ofBits (F := Ideal) .f32 0x00000000#32))

/-- A group's sum at a lane is the sum over the group. -/
theorem sums_apply (x : FVec Ideal (Groups G) .f32) (g : Fin G) (k : Fin 8) (r : Fin 256) :
    sums F x (ix3 g k r) = ∑ j, x (ix3 g j r) := by
  rw [← around_add (fun j => x (ix3 g j r)) k]
  pointwise [sums]
  rfl

/-- A group's maximum at a lane is the maximum around that lane. -/
theorem maxima_apply (x : FVec Ideal (Groups G) .f32) (g : Fin G) (k : Fin 8) (r : Fin 256) :
    maxima F x (ix3 g k r) = around max (fun j => x (ix3 g j r)) k := by
  pointwise [maxima]
  rfl

/-- Choosing by one of two conditions, the second with a comparison of two lane numbers. -/
theorem select_beats (A B : Prop) [Decidable A] [Decidable B] (k c : Fin 8) (a b : EReal) :
    Scalar.select (IntOp.ori (BitVec.ofBool (decide A))
        (IntOp.andi (BitVec.ofBool (decide B)) (IntOp.cmpi .slt (BitVec.ofNat 32 k.val) (BitVec.ofNat 32 c.val)))) a b
      = if A ∨ (B ∧ k < c) then a else b := by
  have h : IntOp.cmpi .slt (BitVec.ofNat 32 k.val) (BitVec.ofNat 32 c.val) = BitVec.ofBool (decide (k < c)) := by
    revert k c; decide
  rw [h]
  by_cases hA : A <;> by_cases hB : B <;> by_cases hk : k < c <;> simp [hA, hB, hk] <;> rfl

/-- The count after the comparison with lane `c`. -/
theorem beatStep_apply (c : Fin 8) (e q : FVec Ideal (Groups G) .f32) (g : Fin G) (k : Fin 8) (r : Fin 256) :
    beatStep F c e q (ix3 g k r) = q (ix3 g k r) +
      if e (ix3 g c r) < e (ix3 g k r) ∨ (e (ix3 g k r) = e (ix3 g c r) ∧ k < c) then 1 else 0 := by
  have hd : ∀ (d : FVec Ideal (Lane G) .f32), broadcastTo (Groups G) d F.spread (ix3 g k r) = d (ix3 g 0 r) := by
    intro d
    refine Idealize.ShloMosaic.broadcastTo_apply d F.spread _ _ fun a => ?_
    match a with
    | 0 => exact (if_neg F.several).symm
    | 1 => rfl
    | 2 => rfl
  rw [← select_beats]
  have hx : broadcastTo (Groups G) (extractStridedSlice (Lane G) ![0, c.val, 0] e (F.lane c.val c.isLt)) F.spread
      (ix3 g k r) = e (ix3 g c r) := by
    rw [hd]
    pointwise
  unfold beatStep
  dsimp only
  generalize broadcastTo (Groups G) (extractStridedSlice (Lane G) ![0, c.val, 0] e (F.lane c.val c.isLt)) F.spread = D
    at hx ⊢
  pointwise
  rw [hx]

/-- The key at a lane is the number of lanes that it beats. -/
theorem keys_apply (e : FVec Ideal (Groups G) .f32) (g : Fin G) (k : Fin 8) (r : Fin 256) :
    keys F e (ix3 g k r) = key (fun j => e (ix3 g j r)) k := by
  rw [key_eq_sum, Fin.sum_univ_eight]
  unfold keys
  rw [beatStep_apply F 7, beatStep_apply F 6, beatStep_apply F 5, beatStep_apply F 4, beatStep_apply F 3,
    beatStep_apply F 2, beatStep_apply F 1, beatStep_apply F 0]
  pointwise

/-- The pattern of minus one reads as minus one. -/
theorem ofBits_neg_one : Ideal.ofBits .f32 0xBF800000#32 = ((-1 : ℝ) : EReal) := by
  simp [Ideal.ofBits, Ideal.ieee, -EReal.coe_mul, -EReal.coe_neg]
  norm_num

/-- The weight at a lane is the lane's gate. -/
theorem weights_apply (v : FVec Ideal (Groups G) .f32) (g : Fin G) (k : Fin 8) (r : Fin 256) :
    weights F (exp v) (ix3 g k r) = gateW (fun j => v (ix3 g j r)) k := by
  set e := exp v with he
  have hv : ∀ j, e (ix3 g j r) = Ideal.exp (v (ix3 g j r)) := fun j => rfl
  have hq : ∀ j, keys F e (ix3 g j r) = key (fun j => e (ix3 g j r)) j := fun j => keys_apply F e g j r
  pointwise [weights]
  have hM : ∀ k, maxima F (keys F e) (ix3 g k r) = ((7 : ℝ) : EReal) := by
    intro k
    rw [maxima_apply]
    simp only [hq]
    exact around_key _ k
  rw [maxima_apply]
  have hT : ∀ j, select (cmpf .oeq (keys F e) (maxima F (keys F e)))
      (broadcast (Groups G) (Ideal.ofBits .f32 0xBF800000#32)) (keys F e) (ix3 g j r)
      = if key (fun j => e (ix3 g j r)) j = ((7 : ℝ) : EReal) then ((-1 : ℝ) : EReal)
        else key (fun j => e (ix3 g j r)) j := by
    intro j
    pointwise
    rw [hM, hq, ofBits_neg_one]
  simp only [hT]
  rw [around_second, hq, sums_apply]
  simp only [six_le_key, hv]
  unfold gateW
  rw [rank_congr (fun a b => exp_lt_exp _ _)]

end Cert.Proof

end
-- ==== Proof.Spec.lean ====
/- What the block computes for one token, a row of 1024 features.

   Two low-rank gates choose two lanes of every group of eight: the first among the 1024 features, the second among the
   4096 hidden units. -/
module

public import proofs.«01_k».proof.Proof.Gate

@[expose] public section

noncomputable section

namespace Cert.Proof

open Idealize.ShloMosaic

/-- A matrix times a vector. -/
def lin {m n : Nat} (A : Fin m → Fin n → EReal) (x : Fin n → EReal) (i : Fin m) : EReal := ∑ c, A i c * x c

/-- The eight scores of the group that entry `f` lies in. -/
def group {n : Nat} (hn : 8 ∣ n) (g : Fin n → EReal) (f : Fin n) (j : Fin 8) : EReal :=
  g ⟨f.val / 8 * 8 + j.val, by have := f.isLt; have := j.isLt; omega⟩

/-- Each entry of `x` times its lane's weight in its group of eight scores. -/
def gated {n : Nat} (hn : 8 ∣ n) (g x : Fin n → EReal) (f : Fin n) : EReal :=
  x f * gateW (group hn g f) ⟨f.val % 8, Nat.mod_lt _ (by decide)⟩

/-- The parameters that the block uses: the two gates' factors, and the two layers' weights and biases. -/
structure Params where
  ga : Fin 64 → Fin 1024 → EReal
  gb : Fin 1024 → Fin 64 → EReal
  w1 : Fin 4096 → Fin 1024 → EReal
  b1 : Fin 4096 → EReal
  ha : Fin 64 → Fin 4096 → EReal
  hb : Fin 4096 → Fin 64 → EReal
  w2 : Fin 1024 → Fin 4096 → EReal
  b2 : Fin 1024 → EReal

variable (P : Params)

/-- The first gate's scores. -/
def scores1 (x : Fin 1024 → EReal) : Fin 1024 → EReal := lin P.gb (lin P.ga x)

/-- The hidden units: the first layer of the gated features, negative values set to zero. -/
def hidden (x : Fin 1024 → EReal) (u : Fin 4096) : EReal :=
  max (lin P.w1 (gated (by decide) (scores1 P x) x) u + P.b1 u) 0

/-- The second gate's scores. -/
def scores2 (x : Fin 1024 → EReal) : Fin 4096 → EReal := lin P.hb (lin P.ha (hidden P x))

/-- The result for one token: the second layer of the gated hidden units. -/
def tokenOut (x : Fin 1024 → EReal) (o : Fin 1024) : EReal :=
  lin P.w2 (gated (by decide) (scores2 P x) (hidden P x)) o + P.b2 o

end Cert.Proof

end
-- ==== Proof.Half.lean ====
/- What the kernel's body computes from half a block: 256 rows of tokens, held one token per column. -/
module

public import proofs.«01_k».proof.Proof.Gen.KernelIdeal.Frame
public import proofs.«01_k».proof.Proof.KernelGate
public import proofs.«01_k».proof.Proof.Spec

@[expose] public section

noncomputable section

namespace Cert.Proof

open Idealize.ShloMosaic
open Cert.KernelIdeal Cert.KernelIdeal.Gen

/-- The shape facts of the first gate: 128 groups. -/
theorem facts128 : GateFacts 128 where
  several := by decide
  turns := rotates_S128x8x256_d1
  lane := by decide
  spread := broadcasts_S128x1x256_S128x8x256
  numbers := iota_S1x8x1_d1_w32
  spreadNumbers := broadcasts_S1x8x1_S128x8x256

/-- The shape facts of the second gate: 512 groups. -/
theorem facts512 : GateFacts 512 where
  several := by decide
  turns := rotates_S512x8x256_d1
  lane := by decide
  spread := broadcasts_S512x1x256_S512x8x256
  numbers := iota_S1x8x1_d1_w32
  spreadNumbers := broadcasts_S1x8x1_S512x8x256

/-- The token rows turned into columns. -/
def columns (x : Vec Ideal S256x1024 .f32) : FVec Ideal S1024x256 .f32 :=
  transpose S1024x256 [1, 0] (shapeCast S256x1024 x shapeCasts_S256x1024_S256x1024) transposes_S256x1024_p1_0_S1024x256

/-- The first gate's scores, in groups. -/
def grouped1 (xt : FVec Ideal S1024x256 .f32) (ga : Vec Ideal S64x1024 .bf16) (gb : Vec Ideal S1024x64 .bf16) :
    FVec Ideal S128x8x256 .f32 :=
  have t : FVec Ideal S64x256 .f32 := matmul (φ₁ := .bf16) dot_S64x1024_S1024x256_S64x256_1_0_0_1_n_n none
    (shapeCast S64x1024 ga shapeCasts_S64x1024_S64x1024) (truncf .bf16 xt bitsLt_bf16_f32)
    (constant S64x256 .f32 0x00000000#32)
  have g : FVec Ideal S1024x256 .f32 := matmul (φ₁ := .bf16) dot_S1024x64_S64x256_S1024x256_1_0_0_1_n_n none
    (shapeCast S1024x64 gb shapeCasts_S1024x64_S1024x64) (truncf .bf16 t bitsLt_bf16_f32)
    (constant S1024x256 .f32 0x00000000#32)
  shapeCast S128x8x256 g shapeCasts_S1024x256_S128x8x256

/-- The features times their weights. -/
def gated1 (xt : FVec Ideal S1024x256 .f32) (v : FVec Ideal S128x8x256 .f32) : FVec Ideal S1024x256 .f32 :=
  shapeCast S1024x256 (mulf (shapeCast S128x8x256 xt shapeCasts_S1024x256_S128x8x256) (weights facts128 (exp v)))
    shapeCasts_S128x8x256_S1024x256

/-- The hidden units of the gated features. -/
def layer1 (x : FVec Ideal S1024x256 .f32) (w : Vec Ideal S4096x1024 .bf16) (b : Vec Ideal S4096x256 .f32) :
    FVec Ideal S4096x256 .f32 :=
  maximumf
    (addf (matmul (φ₁ := .bf16) dot_S4096x1024_S1024x256_S4096x256_1_0_0_1_n_n none
        (shapeCast S4096x1024 w shapeCasts_S4096x1024_S4096x1024) (truncf .bf16 x bitsLt_bf16_f32)
        (constant S4096x256 .f32 0x00000000#32))
      (shapeCast S4096x256 b shapeCasts_S4096x256_S4096x256))
    (broadcast S4096x256 (Scalar.ofBits (F := Ideal) .f32 0x00000000#32))

/-- The second gate's scores, in groups. -/
def grouped2 (h : FVec Ideal S4096x256 .f32) (ha : Vec Ideal S64x4096 .bf16) (hb : Vec Ideal S4096x64 .bf16) :
    FVec Ideal S512x8x256 .f32 :=
  have t : FVec Ideal S64x256 .f32 := matmul (φ₁ := .bf16) dot_S64x4096_S4096x256_S64x256_1_0_0_1_n_n none
    (shapeCast S64x4096 ha shapeCasts_S64x4096_S64x4096) (truncf .bf16 h bitsLt_bf16_f32)
    (constant S64x256 .f32 0x00000000#32)
  have g : FVec Ideal S4096x256 .f32 := matmul (φ₁ := .bf16) dot_S4096x64_S64x256_S4096x256_1_0_0_1_n_n none
    (shapeCast S4096x64 hb shapeCasts_S4096x64_S4096x64) (truncf .bf16 t bitsLt_bf16_f32)
    (constant S4096x256 .f32 0x00000000#32)
  shapeCast S512x8x256 g shapeCasts_S4096x256_S512x8x256

/-- The hidden units times their weights. -/
def gated2 (h : FVec Ideal S4096x256 .f32) (v : FVec Ideal S512x8x256 .f32) : FVec Ideal S4096x256 .f32 :=
  shapeCast S4096x256 (mulf (shapeCast S512x8x256 h shapeCasts_S4096x256_S512x8x256) (weights facts512 (exp v)))
    shapeCasts_S512x8x256_S4096x256

/-- The results of the gated hidden units, turned back into rows. -/
def layer2 (h : FVec Ideal S4096x256 .f32) (w : Vec Ideal S1024x4096 .bf16) (b : Vec Ideal S1024x256 .f32) :
    FVec Ideal S256x1024 .f32 :=
  transpose S256x1024 [1, 0]
    (addf (matmul (φ₁ := .bf16) dot_S1024x4096_S4096x256_S1024x256_1_0_0_1_n_n none
        (shapeCast S1024x4096 w shapeCasts_S1024x4096_S1024x4096) (truncf .bf16 h bitsLt_bf16_f32)
        (constant S1024x256 .f32 0x00000000#32))
      (shapeCast S1024x256 b shapeCasts_S1024x256_S1024x256))
    transposes_S1024x256_p1_0_S256x1024

/-- What the body computes from 256 rows of tokens. -/
def half (x : Vec Ideal S256x1024 .f32) (x1 : Vec Ideal S64x1024 .bf16) (x2 : Vec Ideal S1024x64 .bf16)
    (x3 : Vec Ideal S4096x1024 .bf16) (x4 : Vec Ideal S4096x256 .f32) (x5 : Vec Ideal S64x4096 .bf16)
    (x6 : Vec Ideal S4096x64 .bf16) (x7 : Vec Ideal S1024x4096 .bf16) (x8 : Vec Ideal S1024x256 .f32) :
    FVec Ideal S256x1024 .f32 :=
  have xt := columns x
  have h := layer1 (gated1 xt (grouped1 xt x1 x2)) x3 x4
  layer2 (gated2 h (grouped2 h x5 x6)) x7 x8

/-- The parameters that a block's arrays hold. Each bias is held in 256 equal columns; the first is read. -/
def params (x1 : Vec Ideal S64x1024 .bf16) (x2 : Vec Ideal S1024x64 .bf16)
    (x3 : Vec Ideal S4096x1024 .bf16) (b1 : Fin 4096 → EReal) (x5 : Vec Ideal S64x4096 .bf16)
    (x6 : Vec Ideal S4096x64 .bf16) (x7 : Vec Ideal S1024x4096 .bf16) (b2 : Fin 1024 → EReal) : Params where
  ga i c := x1 (ix2 i c)
  gb i c := x2 (ix2 i c)
  w1 i c := x3 (ix2 i c)
  b1 := b1
  ha i c := x5 (ix2 i c)
  hb i c := x6 (ix2 i c)
  w2 i c := x7 (ix2 i c)
  b2 := b2

section Read

variable (r : Fin 256)

/-- The transposed tokens: token `r` is column `r`. -/
theorem columns_apply (x : Vec Ideal S256x1024 .f32) (c : Fin 1024) : columns x (ix2 c r) = x (ix2 r c) := by
  pointwise [columns]

/-- The first gate's scores of token `r`, split into groups of eight. -/
theorem grouped1_apply (xt : FVec Ideal S1024x256 .f32) (ga : Vec Ideal S64x1024 .bf16) (gb : Vec Ideal S1024x64 .bf16)
    (g : Fin 128) (k : Fin 8) :
    grouped1 xt ga gb (ix3 g k r) = lin (fun i c => gb (ix2 i c)) (lin (fun i c => ga (ix2 i c)) fun c => xt (ix2 c r))
      ⟨g.val * 8 + k.val, by omega⟩ := by
  pointwise [grouped1, lin]

/-- The features of token `r`, each times its weight. -/
theorem gated1_apply (xt : FVec Ideal S1024x256 .f32) (v : FVec Ideal S128x8x256 .f32) (f : Fin 1024) :
    gated1 xt v (ix2 f r) = xt (ix2 f r) * gateW (fun j => v (ix3 ⟨f.val / 8, by omega⟩ j r)) ⟨f.val % 8, by omega⟩ := by
  pointwise [gated1]
  rw [weights_apply]

/-- The hidden units of token `r`. -/
theorem layer1_apply (x : FVec Ideal S1024x256 .f32) (w : Vec Ideal S4096x1024 .bf16) (b : Vec Ideal S4096x256 .f32)
    (u : Fin 4096) :
    layer1 x w b (ix2 u r) = max (lin (fun i c => w (ix2 i c)) (fun c => x (ix2 c r)) u + b (ix2 u r)) 0 := by
  pointwise [layer1, lin]

/-- The second gate's scores of token `r`, split into groups of eight. -/
theorem grouped2_apply (h : FVec Ideal S4096x256 .f32) (ha : Vec Ideal S64x4096 .bf16) (hb : Vec Ideal S4096x64 .bf16)
    (g : Fin 512) (k : Fin 8) :
    grouped2 h ha hb (ix3 g k r) = lin (fun i c => hb (ix2 i c)) (lin (fun i c => ha (ix2 i c)) fun c => h (ix2 c r))
      ⟨g.val * 8 + k.val, by omega⟩ := by
  pointwise [grouped2, lin]

/-- The hidden units of token `r`, each times its weight. -/
theorem gated2_apply (h : FVec Ideal S4096x256 .f32) (v : FVec Ideal S512x8x256 .f32) (f : Fin 4096) :
    gated2 h v (ix2 f r) = h (ix2 f r) * gateW (fun j => v (ix3 ⟨f.val / 8, by omega⟩ j r)) ⟨f.val % 8, by omega⟩ := by
  pointwise [gated2]
  rw [weights_apply]

/-- The second layer's output for token `r`. -/
theorem layer2_apply (h : FVec Ideal S4096x256 .f32) (w : Vec Ideal S1024x4096 .bf16) (b : Vec Ideal S1024x256 .f32)
    (o : Fin 1024) :
    layer2 h w b (ix2 r o) = lin (fun i c => w (ix2 i c)) (fun c => h (ix2 c r)) o + b (ix2 o r) := by
  pointwise [layer2, lin]

/-- What the body computes for one row of tokens. -/
theorem half_apply (x : Vec Ideal S256x1024 .f32) (x1 : Vec Ideal S64x1024 .bf16) (x2 : Vec Ideal S1024x64 .bf16)
    (x3 : Vec Ideal S4096x1024 .bf16) (x4 : Vec Ideal S4096x256 .f32) (x5 : Vec Ideal S64x4096 .bf16)
    (x6 : Vec Ideal S4096x64 .bf16) (x7 : Vec Ideal S1024x4096 .bf16) (x8 : Vec Ideal S1024x256 .f32)
    (o : Fin 1024) :
    half x x1 x2 x3 x4 x5 x6 x7 x8 (ix2 r o) =
      tokenOut (params x1 x2 x3 (fun u => x4 (ix2 u r)) x5 x6 x7 (fun o => x8 (ix2 o r))) (fun c => x (ix2 r c)) o := by
  set P := params x1 x2 x3 (fun u => x4 (ix2 u r)) x5 x6 x7 (fun o => x8 (ix2 o r)) with hP
  have h1 : ∀ f, gated1 (columns x) (grouped1 (columns x) x1 x2) (ix2 f r) =
      gated (by decide) (scores1 P fun c => x (ix2 r c)) (fun c => x (ix2 r c)) f := by
    intro f
    rw [gated1_apply]
    simp only [grouped1_apply, columns_apply]
    rfl
  have h2 : ∀ u, layer1 (gated1 (columns x) (grouped1 (columns x) x1 x2)) x3 x4 (ix2 u r) =
      hidden P (fun c => x (ix2 r c)) u := by
    intro u
    rw [layer1_apply]
    simp only [h1]
    rfl
  unfold half
  rw [layer2_apply]
  simp only [gated2_apply, grouped2_apply, h2]
  rfl

end Read

/-- What the body leaves in the result's block: what it computes from the first 256 rows, over what it computes from the
    other 256. -/
theorem out_eq (x0 : Vec Ideal S512x1024 .f32) (x1 : Vec Ideal S64x1024 .bf16) (x2 : Vec Ideal S1024x64 .bf16)
    (x3 : Vec Ideal S4096x1024 .bf16) (x4 : Vec Ideal S4096x256 .f32) (x5 : Vec Ideal S64x4096 .bf16)
    (x6 : Vec Ideal S4096x64 .bf16) (x7 : Vec Ideal S1024x4096 .bf16) (x8 : Vec Ideal S1024x256 .f32) :
    out0_9 x0 x1 x2 x3 x4 x5 x6 x7 x8 =
      View.canon [⟨r0_10, concatenate S512x1024 0
        [⟨S256x1024, half (View.ld x0 r0_0) (View.ld x1 r0_1) (View.ld x2 r0_2) (View.ld x3 r0_3) (View.ld x4 r0_4)
            (View.ld x5 r0_5) (View.ld x6 r0_6) (View.ld x7 r0_7) (View.ld x8 r0_8)⟩,
          ⟨S256x1024, half (View.ld x0 r0_9) (View.ld x1 r0_1) (View.ld x2 r0_2) (View.ld x3 r0_3) (View.ld x4 r0_4)
            (View.ld x5 r0_5) (View.ld x6 r0_6) (View.ld x7 r0_7) (View.ld x8 r0_8)⟩]
        concatenates_S256x1024_S256x1024_S512x1024_d0⟩] := by
  rfl

end Cert.Proof

end
-- ==== Proof.Block.lean ====
/- What the kernel's body leaves in the result's block, read at one token and one feature. -/
module

public import proofs.«01_k».proof.Proof.Half

@[expose] public section

noncomputable section

namespace Cert.Proof

open Idealize.ShloMosaic
open Cert.KernelIdeal Cert.KernelIdeal.Gen

/-- The two literal zero offsets, as the constant function. -/
theorem offsets_zero : (![0, 0] : Fin 2 → Nat) = fun _ => 0 := funext fun a => by fin_cases a <;> rfl

/-- The block's result for a token is the token's result under the parameters that the block's arrays hold. -/
theorem out_apply (x0 : Vec Ideal S512x1024 .f32) (x1 : Vec Ideal S64x1024 .bf16) (x2 : Vec Ideal S1024x64 .bf16)
    (x3 : Vec Ideal S4096x1024 .bf16) (x4 : Vec Ideal S4096x256 .f32) (x5 : Vec Ideal S64x4096 .bf16)
    (x6 : Vec Ideal S4096x64 .bf16) (x7 : Vec Ideal S1024x4096 .bf16) (x8 : Vec Ideal S1024x256 .f32)
    (b1 : Fin 4096 → EReal) (b2 : Fin 1024 → EReal) (h1 : ∀ u r, x4 (ix2 u r) = b1 u) (h2 : ∀ o r, x8 (ix2 o r) = b2 o)
    (r : Fin 512) (o : Fin 1024) :
    out0_9 x0 x1 x2 x3 x4 x5 x6 x7 x8 (ix2 r o) =
      tokenOut (params x1 x2 x3 b1 x5 x6 x7 b2) (fun k => x0 (ix2 r k)) o := by
  rw [out_eq, View.canon_unit_zero offsets_zero, View.ld_unit_zero offsets_zero, View.ld_unit_zero offsets_zero,
    View.ld_unit_zero offsets_zero, View.ld_unit_zero offsets_zero, View.ld_unit_zero offsets_zero,
    View.ld_unit_zero offsets_zero, View.ld_unit_zero offsets_zero, View.ld_unit_zero offsets_zero]
  pointwise
  split
  · rename_i h
    rw [half_apply]
    simp only [h1, h2]
    congr 1
    funext k
    pointwise
  · rename_i h
    rw [half_apply]
    simp only [h1, h2]
    congr 1
    funext k
    pointwise
    exact congrArg (fun a => x0 (ix2 a k)) (Fin.ext (by show 256 + (r.val - 256) = r.val; omega))

end Cert.Proof

end
-- ==== Proof.Array.lean ====
/- The kernel's result array after the run: each row is what the block computes for that token. -/
module

public import proofs.«01_k».proof.Proof.Gen.KernelIdeal.Points
public import proofs.«01_k».proof.Proof.Block
public import Idealize.ShloMosaic.Lib.Pipeline.Value

@[expose] public section

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The parameters that the argument arrays hold. -/
def argParams : Params where
  ga i k := (m ((c : Thread nD τ).loc main_arg5) : Vec Ideal S64x1024 .f32) (ix2 i k)
  gb i k := (m ((c : Thread nD τ).loc main_arg7) : Vec Ideal S1024x64 .f32) (ix2 i k)
  w1 i k := (m ((c : Thread nD τ).loc main_arg1) : Vec Ideal S4096x1024 .f32) (ix2 i k)
  b1 i := (m ((c : Thread nD τ).loc main_arg2) : Vec Ideal S4096 .f32) (ix1 i)
  ha i k := (m ((c : Thread nD τ).loc main_arg9) : Vec Ideal S64x4096 .f32) (ix2 i k)
  hb i k := (m ((c : Thread nD τ).loc main_arg11) : Vec Ideal S4096x64 .f32) (ix2 i k)
  w2 i k := (m ((c : Thread nD τ).loc main_arg3) : Vec Ideal S1024x4096 .f32) (ix2 i k)
  b2 i := (m ((c : Thread nD τ).loc main_arg4) : Vec Ideal S1024 .f32) (ix1 i)

/-- Token `n` of the input, counted through both sequences. -/
def token (n : Fin 4096) (k : Fin 1024) : EReal :=
  (m ((c : Thread nD τ).loc main_arg0) : Vec Ideal S2x2048x1024 .f32)
    (ix3 ⟨n.val / 2048, by omega⟩ ⟨n.val % 2048, by omega⟩ k)

/-- The result array: row `n` is the result for token `n`. -/
def rows : Vec Ideal S4096x1024 .f32 := fun i => tokenOut (argParams m c) (token m c (i 0)) (i 1)

/-! ## The arrays that the region reads -/

/-- The tokens of both sequences, one row each. -/
theorem V_x : V m c main_call0_v10 = shapeCast S4096x1024 (m ((c : Thread nD τ).loc main_arg0) : Vec Ideal S2x2048x1024 .f32)
    shapeCasts_S2x2048x1024_S4096x1024 := by
  show StableHlo.after hostOps0 _ (Proc.devRef .tc main_call0_v10) = _
  after_results
  rfl

/-- The first layer's weights, as given. -/
theorem V_w1 : V m c main_call0_v0 = (m ((c : Thread nD τ).loc main_arg1) : Vec Ideal S4096x1024 .f32) := by
  show StableHlo.after hostOps0 _ (Proc.devRef .tc main_call0_v0) = _
  after_results
  rfl

/-- The second layer's weights, as given. -/
theorem V_w2 : V m c main_call0_v1 = (m ((c : Thread nD τ).loc main_arg3) : Vec Ideal S1024x4096 .f32) := by
  show StableHlo.after hostOps0 _ (Proc.devRef .tc main_call0_v1) = _
  after_results
  rfl

/-- The first gate's first factor, as given. -/
theorem V_ga : V m c main_call0_v2 = (m ((c : Thread nD τ).loc main_arg5) : Vec Ideal S64x1024 .f32) := by
  show StableHlo.after hostOps0 _ (Proc.devRef .tc main_call0_v2) = _
  after_results
  rfl

/-- The first gate's second factor, as given. -/
theorem V_gb : V m c main_call0_v3 = (m ((c : Thread nD τ).loc main_arg7) : Vec Ideal S1024x64 .f32) := by
  show StableHlo.after hostOps0 _ (Proc.devRef .tc main_call0_v3) = _
  after_results
  rfl

/-- The second gate's first factor, as given. -/
theorem V_ha : V m c main_call0_v4 = (m ((c : Thread nD τ).loc main_arg9) : Vec Ideal S64x4096 .f32) := by
  show StableHlo.after hostOps0 _ (Proc.devRef .tc main_call0_v4) = _
  after_results
  rfl

/-- The second gate's second factor, as given. -/
theorem V_hb : V m c main_call0_v5 = (m ((c : Thread nD τ).loc main_arg11) : Vec Ideal S4096x64 .f32) := by
  show StableHlo.after hostOps0 _ (Proc.devRef .tc main_call0_v5) = _
  after_results
  rfl

/-- The first layer's bias, the same in every column. -/
theorem V_b1 (u : Fin 4096) (r : Fin 256) : (V m c main_call0_v7 : Vec Ideal S4096x256 .f32) (ix2 u r) =
    (m ((c : Thread nD τ).loc main_arg2) : Vec Ideal S4096 .f32) (ix1 u) := by
  have h : V m c main_call0_v7 = broadcastInDim S4096x256 ![0, 1] bcast_S4096x1_S4096x256_0_1
      (broadcastInDim S4096x1 ![0] bcast_S4096_S4096x1_0 (m ((c : Thread nD τ).loc main_arg2) : Vec Ideal S4096 .f32)) := by
    show StableHlo.after hostOps0 _ (Proc.devRef .tc main_call0_v7) = _
    after_results
    rfl
  rw [h]
  pointwise

/-- The second layer's bias, the same in every column. -/
theorem V_b2 (u : Fin 1024) (r : Fin 256) : (V m c main_call0_v9 : Vec Ideal S1024x256 .f32) (ix2 u r) =
    (m ((c : Thread nD τ).loc main_arg4) : Vec Ideal S1024 .f32) (ix1 u) := by
  have h : V m c main_call0_v9 = broadcastInDim S1024x256 ![0, 1] bcast_S1024x1_S1024x256_0_1
      (broadcastInDim S1024x1 ![0] bcast_S1024_S1024x1_0 (m ((c : Thread nD τ).loc main_arg4) : Vec Ideal S1024 .f32)) := by
    show StableHlo.after hostOps0 _ (Proc.devRef .tc main_call0_v9) = _
    after_results
    rfl
  rw [h]
  pointwise

/-! ## The blocks of the windows -/

/-- At point `t` the input's and the result's windows take block `t` of the rows, and every column. -/
theorem idx_in : ∀ t : Fin cfg0.N, (win0_0.index t (0 : Fin 2) = t.val ∧ win0_0.index t (1 : Fin 2) = 0)
    ∧ (win0_9.index t (0 : Fin 2) = t.val ∧ win0_9.index t (1 : Fin 2) = 0) :=
  (by decide +kernel : ∀ t : Fin grid0.N, _)

/-- Window 1 takes its whole array at every point. -/
theorem idx1 : ∀ t : Fin cfg0.N, win0_1.index t (0 : Fin 2) = 0 ∧ win0_1.index t (1 : Fin 2) = 0 :=
  (by decide +kernel : ∀ t : Fin grid0.N, _)

/-- What window 1 holds at a point is its whole array. -/
theorem iblk1_eq (t : Fin cfg0.N) : iblk m c 1 t = V m c (Pipeline.arrRef spec0 1) := by
  obtain ⟨e0, e1⟩ := idx1 t
  funext j
  show V m c (Pipeline.arrRef spec0 1) (((cfg0.win 1).blk t).view.emb j) = V m c (Pipeline.arrRef spec0 1) j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 1024 + 1 * (j 1).val = (j 1).val; omega

/-- Window 2 takes its whole array at every point. -/
theorem idx2 : ∀ t : Fin cfg0.N, win0_2.index t (0 : Fin 2) = 0 ∧ win0_2.index t (1 : Fin 2) = 0 :=
  (by decide +kernel : ∀ t : Fin grid0.N, _)

/-- What window 2 holds at a point is its whole array. -/
theorem iblk2_eq (t : Fin cfg0.N) : iblk m c 2 t = V m c (Pipeline.arrRef spec0 2) := by
  obtain ⟨e0, e1⟩ := idx2 t
  funext j
  show V m c (Pipeline.arrRef spec0 2) (((cfg0.win 2).blk t).view.emb j) = V m c (Pipeline.arrRef spec0 2) j
  refine congrArg _ (funext fun a => Fin.ext ?_)
  match a with
  | ⟨0, _⟩ => show win0_2.index t (0 : Fin 2) * 1024 + 1 * (j 0).val = (j 0).val; omega
  | ⟨1, _⟩ => show win0_2.index t (1 : Fin 2) * 64 + 1 * (j 1).val = (j 1).val; omega

/-- Window 3 takes its whole array at every point. -/
theorem idx3 : ∀ t : Fin cfg0.N, win0_3.index t (0 : Fin 2) = 0 ∧ win0_3.index t (1 : Fin 2) = 0 :=
  (by decide +kernel : ∀ t : Fin grid0.N, _)

/-- What window 3 holds at a point is its whole array. -/
theorem iblk3_eq (t : Fin cfg0.N) : iblk m c 3 t = V m c (Pipeline.arrRef spec0 3) := by
  obtain ⟨e0, e1⟩ := idx3 t
  funext j
  show V m c (Pipeline.arrRef spec0 3) (((cfg0.win 3).blk t).view.emb j) = V m c (Pipeline.arrRef spec0 3) j
  refine congrArg _ (funext fun a => Fin.ext ?_)
  match a with
  | ⟨0, _⟩ => show win0_3.index t (0 : Fin 2) * 4096 + 1 * (j 0).val = (j 0).val; omega
  | ⟨1, _⟩ => show win0_3.index t (1 : Fin 2) * 1024 + 1 * (j 1).val = (j 1).val; omega

/-- Window 4 takes its whole array at every point. -/
theorem idx4 : ∀ t : Fin cfg0.N, win0_4.index t (0 : Fin 2) = 0 ∧ win0_4.index t (1 : Fin 2) = 0 :=
  (by decide +kernel : ∀ t : Fin grid0.N, _)

/-- What window 4 holds at a point is its whole array. -/
theorem iblk4_eq (t : Fin cfg0.N) : iblk m c 4 t = V m c (Pipeline.arrRef spec0 4) := by
  obtain ⟨e0, e1⟩ := idx4 t
  funext j
  show V m c (Pipeline.arrRef spec0 4) (((cfg0.win 4).blk t).view.emb j) = V m c (Pipeline.arrRef spec0 4) j
  refine congrArg _ (funext fun a => Fin.ext ?_)
  match a with
  | ⟨0, _⟩ => show win0_4.index t (0 : Fin 2) * 4096 + 1 * (j 0).val = (j 0).val; omega
  | ⟨1, _⟩ => show win0_4.index t (1 : Fin 2) * 256 + 1 * (j 1).val = (j 1).val; omega

/-- Window 5 takes its whole array at every point. -/
theorem idx5 : ∀ t : Fin cfg0.N, win0_5.index t (0 : Fin 2) = 0 ∧ win0_5.index t (1 : Fin 2) = 0 :=
  (by decide +kernel : ∀ t : Fin grid0.N, _)

/-- What window 5 holds at a point is its whole array. -/
theorem iblk5_eq (t : Fin cfg0.N) : iblk m c 5 t = V m c (Pipeline.arrRef spec0 5) := by
  obtain ⟨e0, e1⟩ := idx5 t
  funext j
  show V m c (Pipeline.arrRef spec0 5) (((cfg0.win 5).blk t).view.emb j) = V m c (Pipeline.arrRef spec0 5) j
  refine congrArg _ (funext fun a => Fin.ext ?_)
  match a with
  | ⟨0, _⟩ => show win0_5.index t (0 : Fin 2) * 64 + 1 * (j 0).val = (j 0).val; omega
  | ⟨1, _⟩ => show win0_5.index t (1 : Fin 2) * 4096 + 1 * (j 1).val = (j 1).val; omega

/-- Window 6 takes its whole array at every point. -/
theorem idx6 : ∀ t : Fin cfg0.N, win0_6.index t (0 : Fin 2) = 0 ∧ win0_6.index t (1 : Fin 2) = 0 :=
  (by decide +kernel : ∀ t : Fin grid0.N, _)

/-- What window 6 holds at a point is its whole array. -/
theorem iblk6_eq (t : Fin cfg0.N) : iblk m c 6 t = V m c (Pipeline.arrRef spec0 6) := by
  obtain ⟨e0, e1⟩ := idx6 t
  funext j
  show V m c (Pipeline.arrRef spec0 6) (((cfg0.win 6).blk t).view.emb j) = V m c (Pipeline.arrRef spec0 6) j
  refine congrArg _ (funext fun a => Fin.ext ?_)
  match a with
  | ⟨0, _⟩ => show win0_6.index t (0 : Fin 2) * 4096 + 1 * (j 0).val = (j 0).val; omega
  | ⟨1, _⟩ => show win0_6.index t (1 : Fin 2) * 64 + 1 * (j 1).val = (j 1).val; omega

/-- Window 7 takes its whole array at every point. -/
theorem idx7 : ∀ t : Fin cfg0.N, win0_7.index t (0 : Fin 2) = 0 ∧ win0_7.index t (1 : Fin 2) = 0 :=
  (by decide +kernel : ∀ t : Fin grid0.N, _)

/-- What window 7 holds at a point is its whole array. -/
theorem iblk7_eq (t : Fin cfg0.N) : iblk m c 7 t = V m c (Pipeline.arrRef spec0 7) := by
  obtain ⟨e0, e1⟩ := idx7 t
  funext j
  show V m c (Pipeline.arrRef spec0 7) (((cfg0.win 7).blk t).view.emb j) = V m c (Pipeline.arrRef spec0 7) j
  refine congrArg _ (funext fun a => Fin.ext ?_)
  match a with
  | ⟨0, _⟩ => show win0_7.index t (0 : Fin 2) * 1024 + 1 * (j 0).val = (j 0).val; omega
  | ⟨1, _⟩ => show win0_7.index t (1 : Fin 2) * 4096 + 1 * (j 1).val = (j 1).val; omega

/-- Window 8 takes its whole array at every point. -/
theorem idx8 : ∀ t : Fin cfg0.N, win0_8.index t (0 : Fin 2) = 0 ∧ win0_8.index t (1 : Fin 2) = 0 :=
  (by decide +kernel : ∀ t : Fin grid0.N, _)

/-- What window 8 holds at a point is its whole array. -/
theorem iblk8_eq (t : Fin cfg0.N) : iblk m c 8 t = V m c (Pipeline.arrRef spec0 8) := by
  obtain ⟨e0, e1⟩ := idx8 t
  funext j
  show V m c (Pipeline.arrRef spec0 8) (((cfg0.win 8).blk t).view.emb j) = V m c (Pipeline.arrRef spec0 8) j
  refine congrArg _ (funext fun a => Fin.ext ?_)
  match a with
  | ⟨0, _⟩ => show win0_8.index t (0 : Fin 2) * 1024 + 1 * (j 0).val = (j 0).val; omega
  | ⟨1, _⟩ => show win0_8.index t (1 : Fin 2) * 256 + 1 * (j 1).val = (j 1).val; omega

/-- Row `r` of point `t`'s block of the input is token `512 t + r`. -/
theorem iblk0_apply (t : Fin cfg0.N) (r : Fin 512) (k : Fin 1024) (n : Fin 4096) (hn : n.val = t.val * 512 + r.val) :
    (iblk m c 0 t : Vec Ideal S512x1024 .f32) (ix2 r k) = token m c n k := by
  obtain ⟨⟨e0, e1⟩, -⟩ := idx_in t
  have h : (iblk m c 0 t : Vec Ideal S512x1024 .f32) (ix2 r k) =
      (V m c main_call0_v10 : Vec Ideal S4096x1024 .f32) (ix2 n k) := by
    show (V m c main_call0_v10 : Vec Ideal S4096x1024 .f32) (((cfg0.win 0).blk t).view.emb (ix2 r k)) = _
    refine congrArg _ (funext fun a => Fin.ext ?_)
    match a with
    | ⟨0, _⟩ => show win0_0.index t (0 : Fin 2) * 512 + 1 * r.val = n.val; omega
    | ⟨1, _⟩ => show win0_0.index t (1 : Fin 2) * 1024 + 1 * k.val = k.val; omega
  rw [h, V_x]
  refine shapeCast_apply _ _ _ (ix3 ⟨n.val / 2048, by omega⟩ ⟨n.val % 2048, by omega⟩ k) ?_
  rw [Shape.rowMajor_val_three, Shape.rowMajor_val_two]
  show (n.val / 2048 * 2048 + n.val % 2048) * 1024 + k.val = n.val * 1024 + k.val
  omega

/-- What point `t` writes back is its block of the result array. -/
theorem flushed_eq (t : Fin cfg0.N) :
    (dats m 0 c).flushed 9 t = ((cfg0.win 9).blk t).view.read (Elt Ideal) (rows m c) := by
  obtain ⟨-, ⟨e0, e1⟩⟩ := idx_in t
  show (cfg0.win 9).cut (grid0.coords t) ((dats m 0 c).after 9 t) = _
  rw [after0_9]
  funext j
  obtain ⟨r, o, rfl⟩ : ∃ (r : Fin 512) (o : Fin 1024), j = ix2 r o := ⟨j 0, j 1, eq_ix2 j⟩
  have ht : t.val < 8 := t.isLt
  have hn : t.val * 512 + r.val < 4096 := by omega
  have hj : ((cfg0.win 9).blk t).view.emb (ix2 r o) = (ix2 (⟨t.val * 512 + r.val, hn⟩ : Fin 4096) o : S4096x1024.Idx) := by
    refine funext fun a => Fin.ext ?_
    match a with
    | ⟨0, _⟩ => show win0_9.index t (0 : Fin 2) * 512 + 1 * r.val = t.val * 512 + r.val; omega
    | ⟨1, _⟩ => show win0_9.index t (1 : Fin 2) * 1024 + 1 * o.val = o.val; omega
  show out0_9 (iblk m c 0 t) (iblk m c 1 t) (iblk m c 2 t) (iblk m c 3 t) (iblk m c 4 t) (iblk m c 5 t) (iblk m c 6 t)
    (iblk m c 7 t) (iblk m c 8 t) (ix2 r o) = rows m c (((cfg0.win 9).blk t).view.emb (ix2 r o))
  rw [hj, out_apply _ _ _ _ _ _ _ _ _ (argParams m c).b1 (argParams m c).b2
    (fun u r => by rw [iblk4_eq]; exact V_b1 m c u r) (fun u r => by rw [iblk8_eq]; exact V_b2 m c u r)]
  have hP : params (iblk m c 1 t) (iblk m c 2 t) (iblk m c 3 t) (argParams m c).b1 (iblk m c 5 t) (iblk m c 6 t)
      (iblk m c 7 t) (argParams m c).b2 = argParams m c := by
    rw [iblk1_eq, iblk2_eq, iblk3_eq, iblk5_eq, iblk6_eq, iblk7_eq]
    show params (V m c main_call0_v2) (V m c main_call0_v3) (V m c main_call0_v0) _ (V m c main_call0_v4)
      (V m c main_call0_v5) (V m c main_call0_v1) _ = _
    rw [V_ga, V_gb, V_w1, V_ha, V_hb, V_w2]
    rfl
  rw [hP]
  have hx : (fun k => (iblk m c 0 t : Vec Ideal S512x1024 .f32) (ix2 r k)) = token m c ⟨t.val * 512 + r.val, hn⟩ :=
    funext fun k => iblk0_apply m c t r k _ rfl
  rw [hx]
  rfl

/-- Every index of the result array is in some point's block. -/
theorem covered (i : S4096x1024.Idx) :
    ∃ t : Fin cfg0.N, (cfg0.win 9).flush t = true ∧ i ∈ ((cfg0.win 9).blk t).view.set := by
  obtain ⟨n, o, rfl⟩ : ∃ (n : Fin 4096) (o : Fin 1024), i = ix2 n o := ⟨i 0, i 1, eq_ix2 i⟩
  have hN : cfg0.N = 8 := by decide
  let t : Fin cfg0.N := ⟨n.val / 512, by omega⟩
  refine ⟨t, flush0_9 t, ?_⟩
  obtain ⟨-, ⟨e0, e1⟩⟩ := idx_in t
  have h := ((cfg0.win 9).blk t).view.emb_mem_set (ix2 (⟨n.val % 512, by omega⟩ : Fin 512) o)
  have hj : ((cfg0.win 9).blk t).view.emb (ix2 (⟨n.val % 512, by omega⟩ : Fin 512) o) = (ix2 n o : S4096x1024.Idx) := by
    refine funext fun a => Fin.ext ?_
    match a with
    | ⟨0, _⟩ =>
      show win0_9.index t (0 : Fin 2) * 512 + 1 * (n.val % 512) = n.val
      rw [e0]; show n.val / 512 * 512 + 1 * (n.val % 512) = n.val; omega
    | ⟨1, _⟩ => show win0_9.index t (1 : Fin 2) * 1024 + 1 * o.val = o.val; omega
  rwa [hj] at h

/-- The result array after the run. -/
theorem array_final : (dats m 0 c).arrAt 9 cfg0.N = rows m c :=
  (dats m 0 c).arrAt_eq_of_cover 9 (rows m c) (fun t _ => flushed_eq m c t) covered

/-! ## The result of the run -/

/-- The result for every token of both sequences. -/
def result : Vec Ideal S2x2048x1024 .f32 := fun i =>
  tokenOut (argParams m c) (fun k => (m ((c : Thread nD τ).loc main_arg0) : Vec Ideal S2x2048x1024 .f32) (ix3 (i 0) (i 1) k)) (i 2)

/-- The result array, folded back into two sequences. -/
theorem rows_folded : shapeCast S2x2048x1024 (rows m c) shapeCasts_S4096x1024_S2x2048x1024 = result m c := by
  funext i
  obtain ⟨a, b, o, rfl⟩ : ∃ (a : Fin 2) (b : Fin 2048) (o : Fin 1024), i = ix3 a b o := ⟨i 0, i 1, i 2, eq_ix3 i⟩
  have hn : a.val * 2048 + b.val < 4096 := by omega
  rw [shapeCast_apply (rows m c) _ (ix3 a b o) (ix2 (⟨a.val * 2048 + b.val, hn⟩ : Fin 4096) o) (by
    rw [Shape.rowMajor_val_three, Shape.rowMajor_val_two]; rfl)]
  show tokenOut (argParams m c) (token m c ⟨a.val * 2048 + b.val, hn⟩) o = tokenOut (argParams m c) _ o
  refine congrArg (fun x => tokenOut (argParams m c) x o) (funext fun k => ?_)
  show (m ((c : Thread nD τ).loc main_arg0) : Vec Ideal S2x2048x1024 .f32) (ix3 _ _ k) = _
  refine congrArg _ (funext fun d => Fin.ext ?_)
  match d with
  | ⟨0, _⟩ => show (a.val * 2048 + b.val) / 2048 = a.val; omega
  | ⟨1, _⟩ => show (a.val * 2048 + b.val) % 2048 = b.val; omega
  | ⟨2, _⟩ => rfl

/-- The ten windows lie on ten arrays. -/
theorem arr_inj : Function.Injective (Pipeline.arrRef spec0) := by decide

/-- The value in the result buffer after the last host operation. -/
theorem tail_value : Pipeline.afterTail₀ cfgs (dats m) 0 (V0 m) [hostOps1] c main_v0 = result m c := by
  have h : Pipeline.afterTail₀ cfgs (dats m) 0 (V0 m) [hostOps1] c main_v0 =
      shapeCast S2x2048x1024 ((dats m 0 c).arrAt 9 cfg0.N : Vec Ideal S4096x1024 .f32)
        shapeCasts_S4096x1024_S2x2048x1024 := by
    show StableHlo.after hostOps1 _ (Proc.devRef .tc main_v0) = _
    after_results
    exact congrArg (fun A : Vec Ideal S4096x1024 .f32 => shapeCast S2x2048x1024 A shapeCasts_S4096x1024_S2x2048x1024)
      (Pipeline.withArrays_arr spec0 arr_inj c (V0 m c) (fun w => (dats m 0 c).arrAt w cfg0.N) 9)
  rw [h, array_final, rows_folded]

/-- The kernel runs, leaves `result` in the result buffer, and keeps its arguments. -/
theorem run_kernel (ρ : Dev nD → PrngReg) :
    θ_run (defs (F := Ideal)) (onTc (τ := τ) (main (F := Ideal))) ⟨m, fun _ => 0, ρ⟩ (fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun _ h c =>
    ⟨((h c).2 main_v0 (Pipeline.mem_restRefs_of main_v0 (by decide) (by decide))).trans (tail_value m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c)⟩) (run_main m ρ)

end Cert.Proof

end
-- ==== Proof.Order.lean ====
/- The order in which a stable sort by descending score leaves the eight lanes of a group.

   Sorting the lane numbers by descending score puts the lane of rank `i` at place `i`. Sorting the places by the lane
   they hold then gives back, for each lane, its rank. -/
module

public import Idealize.ShloMosaic.Lib.PlanTiles.StableSort
public import proofs.«01_k».proof.Proof.Gate

@[expose] public section

noncomputable section

namespace Cert.Proof

open Idealize.ShloMosaic

/-- The number of lanes with a smaller score. -/
def under (p : Fin 8 → EReal) (k : Fin 8) : Nat := (Finset.univ.filter fun j => p j < p k).card

/-- Counting the lanes with a smaller score keeps the order of the scores. -/
theorem under_lt_iff (p : Fin 8 → EReal) (a b : Fin 8) : under p a < under p b ↔ p a < p b := by
  have mono : ∀ a b : Fin 8, p a ≤ p b → under p a ≤ under p b := fun a b h =>
    Finset.card_le_card fun j => by
      simp only [Finset.mem_filter, Finset.mem_univ, true_and]
      exact fun hj => hj.trans_le h
  constructor
  · intro h
    by_contra hn
    exact absurd (mono b a (not_lt.mp hn)) (not_le.mpr h)
  · intro h
    refine Finset.card_lt_card ((Finset.ssubset_iff_of_subset fun j => ?_).mpr ⟨a, by simpa using h, by simp⟩)
    simp only [Finset.mem_filter, Finset.mem_univ, true_and]
    exact fun hj => hj.trans h

/-- The lane that a stable sort by descending score puts at place `k`. -/
def laneAt (p : Fin 8 → EReal) : Fin 8 → Fin 8 := sortedFrom fun k k' => decide (p k' < p k)

/-- The place at which a sort of the places by lane number finds lane `k`. -/
def placeOf (σ : Fin 8 → Fin 8) : Fin 8 → Fin 8 := sortedFrom fun k k' => decide (σ k < σ k')

/-- A strictly increasing map of eight places to themselves moves nothing. -/
theorem strictMono_eq_id {f : Fin 8 → Fin 8} (hf : StrictMono f) (k : Fin 8) : f k = k :=
  congrFun hf.eq_id k

/-- An earlier place holds a greater score, or an equal score of a lower lane. -/
theorem laneAt_order (p : Fin 8 → EReal) {i j : Fin 8} (h : i < j) :
    p (laneAt p j) < p (laneAt p i) ∨ (p (laneAt p i) = p (laneAt p j) ∧ laneAt p i < laneAt p j) := by
  have hB : (fun k k' : Fin 8 => decide (p k' < p k)) = fun k k' => decide (under p k' < under p k) := by
    funext k k'; simp only [under_lt_iff]
  have hp := PlanTiles.pairwise_stableSort_lex (under p) (· < ·) (List.finRange 8) (List.pairwise_lt_finRange 8)
  have hg := List.pairwise_iff_get.mp hp
  have hs : laneAt p = sortedFrom fun k k' => decide (under p k' < under p k) := by unfold laneAt; rw [hB]
  rw [hs]
  rcases hg (i.cast (length_sortPositions 8 _).symm) (j.cast (length_sortPositions 8 _).symm) h with h1 | ⟨h1, h2⟩
  · exact .inl ((under_lt_iff p _ _).mp h1)
  · refine .inr ⟨?_, h2⟩
    rcases lt_trichotomy (p (sortedFrom (fun k k' => decide (under p k' < under p k)) i))
      (p (sortedFrom (fun k k' => decide (under p k' < under p k)) j)) with h3 | h3 | h3
    · exact absurd h1 ((under_lt_iff p _ _).mpr h3).ne
    · exact h3
    · exact absurd h1 ((under_lt_iff p _ _).mpr h3).ne'

/-- The lane at place `i` has rank `i`. -/
theorem rank_laneAt (p : Fin 8 → EReal) (i : Fin 8) : rank p (laneAt p i) = i.val := by
  have hm : StrictMono fun i : Fin 8 => (⟨rank p (laneAt p i), rank_lt_eight p _⟩ : Fin 8) := by
    intro i j h
    exact rank_lt p (laneAt_order p h)
  exact congrArg Fin.val (strictMono_eq_id hm i)

/-- Every place is some lane's, so sorting the places by lane undoes the first sort. -/
theorem laneAt_placeOf (p : Fin 8 → EReal) (k : Fin 8) : laneAt p (placeOf (laneAt p) k) = k := by
  have hinj : Function.Injective (laneAt p) := sortedFrom_injective _
  have hm : StrictMono fun k => laneAt p (placeOf (laneAt p) k) := by
    intro i j h
    refine lt_of_le_of_ne ?_ fun e => h.ne (sortedFrom_injective _ (hinj e))
    have := sortedFrom_noInversion (fun k k' => decide (laneAt p k < laneAt p k')) (fun k k' => decide (laneAt p k < laneAt p k'))
      (by simpa using fun a b => le_of_lt) (fun _ _ h => h)
      (fun a b c h1 h2 => decide_eq_false (not_lt.mpr ((not_lt.mp (of_decide_eq_false h2)).trans (not_lt.mp (of_decide_eq_false h1))))) i j h
    exact not_lt.mp (of_decide_eq_false this)
  exact strictMono_eq_id hm k

/-- The place of a lane is its rank. -/
theorem placeOf_laneAt (p : Fin 8 → EReal) (k : Fin 8) : (placeOf (laneAt p) k).val = rank p k := by
  rw [← rank_laneAt, laneAt_placeOf]

end Cert.Proof

end
-- ==== Proof.TopTwo.lean ====
/- The reference's choice of two lanes out of eight, over `G` groups in each token.

   The reference sorts the lane numbers of a group by descending value, takes the values in that order, overwrites all
   but the first two by zero, and takes the result back in the order that undoes the sort. -/
module

public import Idealize.ShloMosaic.Lib.Pointwise
public import Idealize.ShloMosaic.Lib.Pointwise.IndexVar
public import Idealize.ShloMosaic.Lib.Pipeline.Value
public import Idealize.ShloMosaic.Lib.Routing.OpsPair
public import Idealize.ShloMosaic.Lib.Routing.OpsSet
public import proofs.«01_k».proof.ReferenceIdeal
public import proofs.«01_k».proof.Proof.Order

@[expose] public section

noncomputable section

namespace Cert.Proof

open Idealize.ShloMosaic

/-- A scalar. -/
abbrev Scal : Shape := ⟨0, ![]⟩
/-- One number. -/
abbrev One : Shape := ⟨1, ![1]⟩
/-- One number, in five axes. -/
abbrev One5 : Shape := ⟨5, ![1, 1, 1, 1, 1]⟩
/-- `G` groups of eight lanes in each of 2 × 2048 tokens. -/
abbrev Octets (G : Nat) : Shape := ⟨4, ![2, 2048, G, 8]⟩
/-- The same, with a unit axis behind. -/
abbrev Octets1 (G : Nat) : Shape := ⟨5, ![2, 2048, G, 8, 1]⟩
/-- Six lanes of each group. -/
abbrev Sextets (G : Nat) : Shape := ⟨4, ![2, 2048, G, 6]⟩

/-- The shape facts that the choice's operations carry. -/
structure TopFacts (G : Nat) : Prop where
  several : G ≠ 1
  scalar : 0 < Scal.numel
  spread : Scal.BroadcastsInDim (Octets G) (![] : Fin 0 → Fin (Octets G).rank)
  behind : (Octets G).ShapeCasts (Octets1 G)
  spread1 : Scal.BroadcastsInDim (Octets1 G) (![] : Fin 0 → Fin (Octets1 G).rank)
  last : One.BroadcastsInDim One5 (![4] : Fin 1 → Fin One5.rank)
  spreadLast : One5.BroadcastsInDim (Octets1 G) (![0, 1, 2, 3, 4] : Fin 5 → Fin (Octets1 G).rank)
  drop : (Octets1 G).ReducesTo [4] (Octets G)
  one : Scal.BroadcastsInDim One (![] : Fin 0 → Fin One.rank)
  six : Scal.BroadcastsInDim (Sextets G) (![] : Fin 0 → Fin (Sextets G).rank)
  gathers : GatherDims.WF (Octets G) (Octets1 G) (Octets G) [] [3] [0, 1, 2] [3] [0, 1, 2] 4 ![1, 1, 1, 1]
  scatters : ScatterDims.WF (Octets G) One (Sextets G) [0, 1, 2, 3] [] [3] 0

variable {G : Nat} (F : TopFacts G)

/-- A lane of each group, by the number in the index array. -/
def pick : GatherDims (Octets G) (Octets1 G) (Octets G) where
  offsetDims := []
  collapsedSliceDims := [3]
  operandBatchingDims := [0, 1, 2]
  startIndicesBatchingDims := [0, 1, 2]
  startIndexMap := [3]
  indexVectorDim := 4
  sliceSizes := ![1, 1, 1, 1]
  wf := F.gathers

/-- A window of lanes of every group. -/
def window : ScatterDims (Octets G) One (Sextets G) where
  updateWindowDims := [0, 1, 2, 3]
  insertedWindowDims := []
  scatterDimsToOperandDims := [3]
  indexVectorDim := 0
  wf := F.scatters

/-- The index words, a negative one moved up by eight. -/
def wrapped (w : IVec (Octets G) 32) : IVec (Octets1 G) 32 :=
  shapeCast _ (select (cmpi .slt w (broadcastInDim (Octets G) ![] F.spread (constantI Scal 32 0#32)))
    (addi w (broadcastInDim (Octets G) ![] F.spread (constantI Scal 32 8#32))) w) F.behind

/-- Which index words are lane numbers. -/
def inside (w : IVec (Octets1 G) 32) : IVec (Octets G) 1 :=
  Host.reduce IntOp.andi (andi (cmpi .sge w (broadcastInDim (Octets1 G) ![] F.spread1 (constantI Scal 32 0#32)))
    (cmpi .sle w (broadcastInDim (Octets1 G) ![0, 1, 2, 3, 4] F.spreadLast (broadcastInDim One5 ![4] F.last (constantI One 32 7#32)))))
    (constantI Scal 1 1#1) F.drop F.scalar

/-- The values of `p` at the lanes that `w` names. -/
def takeAlong (p : FVec Ideal (Octets G) .f32) (w : IVec (Octets G) 32) : FVec Ideal (Octets G) .f32 :=
  select (inside F (wrapped F w)) (Host.gather (pick F) p (wrapped F w))
    (broadcastInDim (Octets G) ![] F.spread (constant (F := Ideal) Scal .f32 0x7FC00000#32))

/-- The first two lanes of `y`, and zero behind them. -/
def firstTwo (y : FVec Ideal (Octets G) .f32) : FVec Ideal (Octets G) .f32 :=
  Host.scatter (window F) (fun _ b => b) y (broadcastInDim One ![] F.one (constantI Scal 32 2#32))
    (broadcastInDim (Sextets G) ![] F.six (constant (F := Ideal) Scal .f32 0x00000000#32))

/-- The lane numbers in descending order of the values. -/
def order (p : FVec Ideal (Octets G) .f32) : IVec (Octets G) 32 :=
  (Host.sort2 (Octets G) 3 (Cert.ReferenceIdeal.comparator_f32_i32_d3 (F := Ideal)) (Host.negf p) (iotaInDim (Octets G) 32 3)).2

/-- The places in ascending order of the lane numbers they hold. -/
def places (w : IVec (Octets G) 32) : IVec (Octets G) 32 :=
  (Host.sort2 (Octets G) 3 Cert.ReferenceIdeal.comparator_i32_i32_d3 w (iotaInDim (Octets G) 32 3)).2

/-- The values with all but the two greatest of each group replaced by zero. -/
def topTwo (p : FVec Ideal (Octets G) .f32) : FVec Ideal (Octets G) .f32 :=
  takeAlong F (firstTwo F (takeAlong F p (order p))) (places (order p))

/-! ## The two sorts -/

/-- Index `ix4 a b g k` with its lane replaced. -/
theorem along_lane (a : Fin 2) (b : Fin 2048) (g : Fin G) (k k' : Fin 8) :
    Shape.Idx.along (s := Octets G) (ix4 a b g k) 3 k' = ix4 a b g k' := by
  funext d
  match d with
  | ⟨0, _⟩ => rfl
  | ⟨1, _⟩ => rfl
  | ⟨2, _⟩ => rfl
  | ⟨3, _⟩ => rfl

/-- What a sort of two arrays along the lanes leaves in the second. -/
theorem sort_lanes {α : Type} (cmp : α × BitVec 32 → α × BitVec 32 → BitVec 1) (x : (Octets G).Idx → α) (a : Fin 2) (b : Fin 2048)
    (g : Fin G) (before : Fin 8 → Fin 8 → Bool)
    (h : ∀ i j, (cmp (x (ix4 a b g i), BitVec.ofNat 32 i.val) (x (ix4 a b g j), BitVec.ofNat 32 j.val) == 1#1) = before i j) (k : Fin 8) :
    (Host.sort2 (Octets G) 3 cmp x (iotaInDim (Octets G) 32 3)).2 (ix4 a b g k) = BitVec.ofNat 32 (sortedFrom before k).val := by
  have hb : before = fun i j => cmp (x (ix4 a b g i), iotaInDim (Octets G) 32 3 (ix4 a b g i))
      (x (ix4 a b g j), iotaInDim (Octets G) 32 3 (ix4 a b g j)) == 1#1 := by
    funext i j
    exact (h i j).symm
  unfold Host.sort2
  rw [dif_pos (show 3 < (Octets G).rank by show 3 < 4; decide), hb]
  have e := along_lane a b g k
  show iotaInDim (Octets G) 32 3 (Shape.Idx.along (s := Octets G) (ix4 a b g k) 3 (sortedFrom (n := 8)
    (fun i j : Fin 8 => cmp (x (Shape.Idx.along (s := Octets G) (ix4 a b g k) 3 i), iotaInDim (Octets G) 32 3 (Shape.Idx.along (s := Octets G) (ix4 a b g k) 3 i))
      (x (Shape.Idx.along (s := Octets G) (ix4 a b g k) 3 j), iotaInDim (Octets G) 32 3 (Shape.Idx.along (s := Octets G) (ix4 a b g k) 3 j)) == 1#1) k)) = _
  simp only [e]
  rfl

/-- Descending values, as the comparator of the first sort tells them apart. -/
theorem comparator_neg (x y : EReal) (u v : BitVec 32) :
    (Cert.ReferenceIdeal.comparator_f32_i32_d3 (F := Ideal) (-x, u) (-y, v) == 1#1) = decide (y < x) := by
  have hz : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    rw [show FloatOps.ofBits (F := Ideal) .f32 0x00000000#32 = (0 : EReal) from Ideal.ofBits_zero_f32,
      show FloatOps.cmpf (F := Ideal) (φ := .f32) .une z z = 0#1 by show BitVec.ofBool (decide (z ≠ z)) = 0#1; simp]
    show Scalar.select (BitVec.ofBool (decide (z = 0))) 0 z = z
    by_cases h : z = 0 <;> simp [h, Scalar.select]
  show (FloatOps.cmpfTotal (F := Ideal) (φ := .f32) .lt (Scalar.select _ _ _) (Scalar.select _ _ _) == 1#1) = _
  rw [hz, hz, Ideal.cmpfTotal_def]
  show (BitVec.ofBool (decide (-x < -y)) == 1#1) = _
  by_cases h : y < x
  · simp [h, EReal.neg_lt_neg_iff.mpr h]
  · have h' : ¬ -x < -y := fun e => h (EReal.neg_lt_neg_iff.mp e)
    simp [h, h']

/-- The sorted lane numbers of a group. -/
theorem order_apply (p : FVec Ideal (Octets G) .f32) (a : Fin 2) (b : Fin 2048) (g : Fin G) (k : Fin 8) :
    order p (ix4 a b g k) = BitVec.ofNat 32 (laneAt (fun j => p (ix4 a b g j)) k).val :=
  sort_lanes _ _ a b g _ (fun _ _ => comparator_neg _ _ _ _) k

/-- Lane numbers compared as words. -/
theorem comparator_lane (i j : Fin 8) (u v : BitVec 32) :
    (Cert.ReferenceIdeal.comparator_i32_i32_d3 (BitVec.ofNat 32 i.val, u) (BitVec.ofNat 32 j.val, v) == 1#1) = decide (i < j) := by
  show (IntOp.cmpi .slt (BitVec.ofNat 32 i.val) (BitVec.ofNat 32 j.val) == 1#1) = _
  revert i j
  decide

/-- The sorted places of a group. -/
theorem places_apply (w : IVec (Octets G) 32) (a : Fin 2) (b : Fin 2048) (g : Fin G) (σ : Fin 8 → Fin 8)
    (hw : ∀ k, w (ix4 a b g k) = BitVec.ofNat 32 (σ k).val) (k : Fin 8) :
    places w (ix4 a b g k) = BitVec.ofNat 32 (placeOf σ k).val :=
  sort_lanes _ _ a b g _ (fun i j => by rw [hw, hw]; exact comparator_lane _ _ _ _) k

/-! ## Taking lanes by number -/

include F in
theorem wrapped_apply (w : IVec (Octets G) 32) (a : Fin 2) (b : Fin 2048) (g : Fin G) (k l : Fin 8)
    (hw : w (ix4 a b g k) = BitVec.ofNat 32 l.val) :
    wrapped F w (ix5 a b g k (0 : Fin 1)) = BitVec.ofNat 32 l.val := by
  have hG := F.several
  have h1 : wrapped F w (ix5 a b g k (0 : Fin 1)) =
      Scalar.select (IntOp.cmpi .slt (w (ix4 a b g k)) 0#32) (IntOp.addi (w (ix4 a b g k)) 8#32) (w (ix4 a b g k)) := by
    unfold wrapped
    rw [shapeCast_apply _ F.behind (ix5 a b g k (0 : Fin 1)) (ix4 a b g k) (by
      rw [Shape.rowMajor_val_four, Shape.rowMajor_val_five]
      show _ = (((a.val * 2048 + b.val) * G + g.val) * 8 + k.val) * 1 + 0
      rw [Nat.mul_one]; rfl)]
    pointwise
  rw [h1, hw]
  clear h1 hw
  revert l
  decide

/-- A lane number passes the range test. -/
theorem inside_apply (w : IVec (Octets1 G) 32) (a : Fin 2) (b : Fin 2048) (g : Fin G) (k l : Fin 8)
    (hw : w (ix5 a b g k (0 : Fin 1)) = BitVec.ofNat 32 l.val) :
    inside F w (ix4 a b g k) = 1#1 := by
  unfold inside
  have hG := F.several
  pointwise
  rw [show (Finset.univ : Finset (Fin 1)) = {0} from rfl, Finset.fold_singleton, hw]
  clear hw
  revert l
  decide

/-- The index that the gather reads for a lane number: the same token and group, and that lane. -/
theorem operand_lane (w : IVec (Octets1 G) 32) (a : Fin 2) (b : Fin 2048) (g : Fin G) (k l : Fin 8)
    (hw : w (ix5 a b g k (0 : Fin 1)) = BitVec.ofNat 32 l.val) :
    (pick F).operandIdx (ix4 a b g k) w = ix4 a b g l := by
  have hs : (pick F).siIdx (ix4 a b g k) ⟨0, Nat.one_pos⟩ = ix5 a b g k (0 : Fin 1) := by
    funext d
    refine Fin.ext ?_
    match d with
    | ⟨0, _⟩ => rfl
    | ⟨1, _⟩ => rfl
    | ⟨2, _⟩ => rfl
    | ⟨3, _⟩ => rfl
    | ⟨4, _⟩ => rfl
  have hl : min (BitVec.ofNat 32 l.val).toInt.toNat 7 = l.val := by
    clear hw hs
    revert l
    decide
  funext d
  refine Fin.ext ?_
  match d with
  | ⟨0, _⟩ => show 0 + a.val + 0 = a.val; omega
  | ⟨1, _⟩ => show 0 + b.val + 0 = b.val; omega
  | ⟨2, _⟩ => show 0 + g.val + 0 = g.val; omega
  | ⟨3, _⟩ =>
    show min (w ((pick F).siIdx (ix4 a b g k) ⟨0, Nat.one_pos⟩)).toInt.toNat 7 + 0 + 0 = l.val
    rw [hs, hw, hl]; rfl

/-- The value at the lane that the index names. -/
theorem takeAlong_apply (p : FVec Ideal (Octets G) .f32) (w : IVec (Octets G) 32) (a : Fin 2) (b : Fin 2048) (g : Fin G)
    (k l : Fin 8) (hw : w (ix4 a b g k) = BitVec.ofNat 32 l.val) :
    takeAlong F p w (ix4 a b g k) = p (ix4 a b g l) := by
  have h := wrapped_apply F w a b g k l hw
  show Scalar.select (inside F (wrapped F w) (ix4 a b g k)) (p ((pick F).operandIdx (ix4 a b g k) (wrapped F w))) _ = _
  rw [inside_apply F _ a b g k l h, operand_lane F _ a b g k l h]
  rfl

/-! ## Overwriting the last six lanes -/

/-- Lane `k` of the six written is lane `k + 2` of the group. -/
theorem window_lane (c : IVec One 32) (hc : c (ix1 0) = 2#32) (a a' : Fin 2) (b b' : Fin 2048) (g g' : Fin G) (k : Fin 6) (l : Fin 8) :
    (window F).resultIdx? (ix4 a b g k) c = some (ix4 a' b' g' l) ↔ a = a' ∧ b = b' ∧ g = g' ∧ k.val + 2 = l.val := by
  have hs : (window F).siIdx (ix4 a b g k) ⟨0, Nat.one_pos⟩ = ix1 (0 : Fin 1) := by
    funext d
    refine Fin.ext ?_
    match d with
    | ⟨0, _⟩ => rfl
  have h3 : (window F).start (ix4 a b g k) c (3 : Fin 4) = 2 := by
    show (c ((window F).siIdx (ix4 a b g k) ⟨0, Nat.one_pos⟩)).toInt = 2
    rw [hs, hc]; rfl
  rw [Idealize.ShloMosaic.Routing.resultIdx?_eq_some]
  constructor
  · intro h
    have e0 : (0 : Int) + (a.val : Int) = (a'.val : Int) := h (0 : Fin 4)
    have e1 : (0 : Int) + (b.val : Int) = (b'.val : Int) := h (1 : Fin 4)
    have e2 : (0 : Int) + (g.val : Int) = (g'.val : Int) := h (2 : Fin 4)
    have e3 : (window F).start (ix4 a b g k) c (3 : Fin 4) + (k.val : Int) = (l.val : Int) := h (3 : Fin 4)
    rw [h3] at e3
    exact ⟨Fin.ext (by omega), Fin.ext (by omega), Fin.ext (by omega), by omega⟩
  · rintro ⟨rfl, rfl, rfl, e⟩ d
    match d with
    | ⟨0, _⟩ => show (0 : Int) + (a.val : Int) = (a.val : Int); omega
    | ⟨1, _⟩ => show (0 : Int) + (b.val : Int) = (b.val : Int); omega
    | ⟨2, _⟩ => show (0 : Int) + (g.val : Int) = (g.val : Int); omega
    | ⟨3, _⟩ =>
      show (window F).start (ix4 a b g k) c (3 : Fin 4) + (k.val : Int) = (l.val : Int)
      rw [h3]; omega

/-- The first two lanes stay, the other six are zero. -/
theorem firstTwo_apply (y : FVec Ideal (Octets G) .f32) (a : Fin 2) (b : Fin 2048) (g : Fin G) (k : Fin 8) :
    firstTwo F y (ix4 a b g k) = if k.val < 2 then y (ix4 a b g k) else 0 := by
  have hz : ∀ i, (broadcastInDim (Sextets G) ![] F.six (constant (F := Ideal) Scal .f32 0x00000000#32)) i = (0 : EReal) := fun i => by
    show FloatOps.ofBits (F := Ideal) .f32 0x00000000#32 = (0 : EReal)
    exact Ideal.ofBits_zero_f32
  have hc : (broadcastInDim One ![] F.one (constantI Scal 32 2#32)) (ix1 0) = 2#32 := rfl
  unfold firstTwo
  split
  · next h =>
    refine Idealize.ShloMosaic.Routing.scatter_set_miss _ _ _ _ _ fun i hi => ?_
    obtain ⟨a', b', g', k', rfl⟩ : ∃ (a' : Fin 2) (b' : Fin 2048) (g' : Fin G) (k' : Fin 6), i = ix4 a' b' g' k' :=
      ⟨i 0, i 1, i 2, i 3, eq_ix4 i⟩
    rw [window_lane F _ hc] at hi
    omega
  · next h =>
    refine Idealize.ShloMosaic.Routing.scatter_set_hit _ _ _ _ _ 0 (fun i _ => hz i) (ix4 a b g ⟨k.val - 2, by omega⟩) ?_
    rw [window_lane F _ hc]
    exact ⟨rfl, rfl, rfl, by show k.val - 2 + 2 = k.val; omega⟩

/-! ## The choice -/

/-- A lane keeps its value if its rank is below two, and is zero if not. -/
theorem topTwo_apply (p : FVec Ideal (Octets G) .f32) (a : Fin 2) (b : Fin 2048) (g : Fin G) (k : Fin 8) :
    topTwo F p (ix4 a b g k) = if rank (fun j => p (ix4 a b g j)) k < 2 then p (ix4 a b g k) else 0 := by
  have hp := placeOf_laneAt (fun j => p (ix4 a b g j)) k
  have hl := laneAt_placeOf (fun j => p (ix4 a b g j)) k
  unfold topTwo
  rw [takeAlong_apply F _ _ a b g k _ (places_apply _ a b g _ (order_apply p a b g) k), firstTwo_apply,
    takeAlong_apply F _ _ a b g _ _ (order_apply p a b g _), hp, hl]

end Cert.Proof

end
-- ==== Proof.Finite.lean ====
/- Extended reals that are real numbers, and the gate's weights on them. -/
module

public import proofs.«01_k».proof.Proof.Gate

@[expose] public section

noncomputable section

namespace Cert.Proof

open Idealize.ShloMosaic

/-- The extended real is a real number. -/
def IsReal (x : EReal) : Prop := ∃ r : ℝ, x = (r : EReal)

/-- Zero is real. -/
theorem isReal_zero : IsReal 0 := ⟨0, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  rcases max_choice x y with h | h <;> rw [h]
  · exact hx
  · exact hy

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h

/-- A number whose absolute value is below infinity is real. -/
theorem isReal_of_abs_lt {x : EReal} (h : max x (-x) < ⊤) : IsReal x := by
  induction x with
  | bot => simp at h
  | top => simp at h
  | coe r => exact ⟨r, rfl⟩

/-- The sum of the exponentials of eight real scores is a positive real number. -/
theorem sum_exp (r : Fin 8 → ℝ) : ∑ j, Ideal.exp ((r j : ℝ) : EReal) = ((∑ j, Real.exp (r j) : ℝ) : EReal) := by
  simp only [Ideal.exp_coe]
  exact (map_sum (⟨⟨Real.toEReal, EReal.coe_zero⟩, EReal.coe_add⟩ : ℝ →+ EReal) _ _).symm

/-- The sum of the exponentials is positive. -/
theorem sum_exp_pos (r : Fin 8 → ℝ) : 0 < ∑ j, Real.exp (r j) :=
  Finset.sum_pos (fun j _ => Real.exp_pos _) ⟨0, Finset.mem_univ _⟩

/-- A softmax probability of real scores, as a quotient of real numbers. -/
theorem prob_real (r : Fin 8 → ℝ) (k : Fin 8) :
    Ideal.div (Ideal.exp ((r k : ℝ) : EReal)) (∑ j, Ideal.exp ((r j : ℝ) : EReal)) =
      ((Real.exp (r k) / ∑ j, Real.exp (r j) : ℝ) : EReal) := by
  rw [sum_exp, Ideal.exp_coe, Ideal.div_coe (sum_exp_pos r).ne']
  rw [← EReal.coe_mul, mul_one_div]

/-- The weights of real scores are real. -/
theorem IsReal.gateW {g : Fin 8 → EReal} (h : ∀ j, IsReal (g j)) (k : Fin 8) : IsReal (gateW g k) := by
  choose r hr using h
  unfold Cert.Proof.gateW
  split
  · simp only [hr]
    exact ⟨_, prob_real r k⟩
  · exact isReal_zero

/-- Subtracting one number from every score leaves the probabilities as they are. -/
theorem prob_shift (r : Fin 8 → ℝ) (M : ℝ) (k : Fin 8) :
    Ideal.div (Ideal.exp ((r k : ℝ) - (M : ℝ) : EReal)) (∑ j, Ideal.exp ((r j : ℝ) - (M : ℝ) : EReal)) =
      Ideal.div (Ideal.exp ((r k : ℝ) : EReal)) (∑ j, Ideal.exp ((r j : ℝ) : EReal)) := by
  have e : ∀ j, ((r j : EReal) - (M : EReal)) = ((r j - M : ℝ) : EReal) := fun j => (EReal.coe_sub _ _).symm
  simp only [e]
  rw [prob_real (fun j => r j - M) k, prob_real]
  congr 1
  simp only [Real.exp_sub, ← Finset.sum_div]
  field_simp

/-- A greater score has the greater probability. -/
theorem prob_lt_iff (r : Fin 8 → ℝ) (a b : Fin 8) :
    Ideal.div (Ideal.exp ((r a : ℝ) : EReal)) (∑ j, Ideal.exp ((r j : ℝ) : EReal)) <
      Ideal.div (Ideal.exp ((r b : ℝ) : EReal)) (∑ j, Ideal.exp ((r j : ℝ) : EReal)) ↔ (r a : EReal) < (r b : EReal) := by
  rw [prob_real, prob_real, EReal.coe_lt_coe_iff, EReal.coe_lt_coe_iff, div_lt_div_iff_of_pos_right (sum_exp_pos r), Real.exp_lt_exp]

/-- The greatest of eight real scores, taken from minus infinity on, is real. -/
theorem isReal_fold_max {g : Fin 8 → EReal} (h : ∀ j, IsReal (g j)) : IsReal (Finset.fold max ⊥ g Finset.univ) := by
  choose r hr using h
  have h1 : Finset.fold max ⊥ g Finset.univ < ⊤ := by
    rw [Finset.fold_max_lt]
    exact ⟨bot_lt_top, fun j _ => hr j ▸ EReal.coe_lt_top _⟩
  have h2 : ⊥ < Finset.fold max ⊥ g Finset.univ := by
    rw [Finset.lt_fold_max]
    exact .inr ⟨0, Finset.mem_univ _, hr 0 ▸ EReal.bot_lt_coe _⟩
  exact ⟨_, (EReal.coe_toReal h1.ne h2.ne').symm⟩

end Cert.Proof

end
-- ==== Proof.Softmax.lean ====
/- The reference's gate over `G` groups of eight lanes in each token: the softmax of every group, and then the choice of
   two lanes. On real scores it is the gate of Gate.lean. -/
module

public import proofs.«01_k».proof.Proof.TopTwo
public import proofs.«01_k».proof.Proof.Finite

@[expose] public section

noncomputable section

namespace Cert.Proof

open Idealize.ShloMosaic

/-- One number for each group. -/
abbrev Trios (G : Nat) : Shape := ⟨3, ![2, 2048, G]⟩
/-- The same, with a unit axis behind. -/
abbrev Trios1 (G : Nat) : Shape := ⟨4, ![2, 2048, G, 1]⟩

/-- The shape facts that the softmax's operations carry. -/
structure SoftFacts (G : Nat) : Prop where
  several : G ≠ 1
  scalar : 0 < Scal.numel
  drop : (Octets G).ReducesTo [3] (Trios G)
  spread : Scal.BroadcastsInDim (Trios G) (![] : Fin 0 → Fin (Trios G).rank)
  behind : (Trios G).BroadcastsInDim (Trios1 G) (![0, 1, 2] : Fin 3 → Fin (Trios1 G).rank)
  lanes : (Trios1 G).BroadcastsInDim (Octets G) (![0, 1, 2, 3] : Fin 4 → Fin (Octets G).rank)

variable {G : Nat} (F : SoftFacts G) (T : TopFacts G)

/-- A number for each group, in every lane. -/
def inLanes (y : FVec Ideal (Trios G) .f32) : FVec Ideal (Octets G) .f32 :=
  broadcastInDim (Octets G) ![0, 1, 2, 3] F.lanes (broadcastInDim (Trios1 G) ![0, 1, 2] F.behind y)

/-- The greatest score of each group. -/
def greatest (v : FVec Ideal (Octets G) .f32) : FVec Ideal (Trios G) .f32 :=
  maximumf (broadcastInDim (Trios G) ![] F.spread (constant (F := Ideal) Scal .f32 0xFF800000#32))
    (Host.reduce FloatOps.maximumf v (constant (F := Ideal) Scal .f32 0xFF800000#32) F.drop F.scalar)

/-- The exponentials of the scores less the greatest of their group. -/
def shifted (v : FVec Ideal (Octets G) .f32) : FVec Ideal (Octets G) .f32 :=
  Host.exp (subf v (inLanes F (greatest F v)))

/-- The softmax of each group. -/
def probs (v : FVec Ideal (Octets G) .f32) : FVec Ideal (Octets G) .f32 :=
  Host.divf (shifted F v) (inLanes F (Host.reduceAdd (shifted F v) (constant (F := Ideal) Scal .f32 0x00000000#32) F.drop F.scalar))

/-- A number for each group, read in a lane. -/
theorem inLanes_apply (y : FVec Ideal (Trios G) .f32) (a : Fin 2) (b : Fin 2048) (g : Fin G) (k : Fin 8) :
    inLanes F y (ix4 a b g k) = y (ix3 a b g) := by
  have hG := F.several
  unfold inLanes
  pointwise
  exact congrArg y (congrArg (ix3 a b) ((dif_neg hG).trans (dif_neg hG)))

/-- The greatest of eight real scores is real. -/
theorem greatest_real (v : FVec Ideal (Octets G) .f32) (a : Fin 2) (b : Fin 2048) (g : Fin G)
    (hv : ∀ j, IsReal (v (ix4 a b g j))) : IsReal (greatest F v (ix3 a b g)) := by
  have hG := F.several
  unfold greatest
  pointwise
  rw [show Ideal.ofBits .f32 0xFF800000#32 = ⊥ by simp [Ideal.ofBits, Ideal.ieee], max_eq_right bot_le]
  exact isReal_fold_max hv

/-- The sum of each group. -/
theorem sum_lanes (y : FVec Ideal (Octets G) .f32) (a : Fin 2) (b : Fin 2048) (g : Fin G) :
    Host.reduceAdd y (constant (F := Ideal) Scal .f32 0x00000000#32) F.drop F.scalar (ix3 a b g) = ∑ j, y (ix4 a b g j) := by
  have hG := F.several
  pointwise

/-- A quotient, read at an index. -/
theorem quotient_apply (x y : FVec Ideal (Octets G) .f32) (i : (Octets G).Idx) : Host.divf x y i = Ideal.div (x i) (y i) := rfl

/-- An exponential of a difference, read at an index. -/
theorem exp_sub_apply (x y : FVec Ideal (Octets G) .f32) (i : (Octets G).Idx) : Host.exp (subf x y) i = Ideal.exp (x i - y i) := rfl

/-- The softmax of real scores. -/
theorem probs_apply (v : FVec Ideal (Octets G) .f32) (a : Fin 2) (b : Fin 2048) (g : Fin G) (r : Fin 8 → ℝ)
    (hv : ∀ j, v (ix4 a b g j) = ((r j : ℝ) : EReal)) (k : Fin 8) :
    probs F v (ix4 a b g k) = Ideal.div (Ideal.exp ((r k : ℝ) : EReal)) (∑ j, Ideal.exp ((r j : ℝ) : EReal)) := by
  obtain ⟨M, hM⟩ := greatest_real F v a b g fun j => ⟨r j, hv j⟩
  have hs : ∀ j, shifted F v (ix4 a b g j) = Ideal.exp ((r j : ℝ) - (M : ℝ) : EReal) := fun j => by
    unfold shifted
    rw [exp_sub_apply, inLanes_apply, hM, hv]
  have hd : probs F v (ix4 a b g k) = Ideal.div (shifted F v (ix4 a b g k)) (∑ j, shifted F v (ix4 a b g j)) := by
    unfold probs
    rw [quotient_apply, inLanes_apply, sum_lanes F]
  rw [hd]
  simp only [hs]
  exact prob_shift r M k

/-- The reference's weights. -/
def refGate (v : FVec Ideal (Octets G) .f32) : FVec Ideal (Octets G) .f32 := topTwo T (probs F v)

/-- On real scores the reference's weights are the gate's. -/
theorem refGate_apply (v : FVec Ideal (Octets G) .f32) (a : Fin 2) (b : Fin 2048) (g : Fin G)
    (hv : ∀ j, IsReal (v (ix4 a b g j))) (k : Fin 8) :
    refGate F T v (ix4 a b g k) = gateW (fun j => v (ix4 a b g j)) k := by
  choose r hr using hv
  have hp := probs_apply F v a b g r hr
  unfold refGate gateW
  rw [topTwo_apply]
  simp only [hp, hr]
  rw [rank_congr (fun a b => prob_lt_iff r a b)]

end Cert.Proof

end
-- ==== Proof.RefGates.lean ====
/- The reference's two gates: the softmax and the choice of two lanes, over 128 groups of features and over 512 groups of
   hidden units, are the operations of Softmax.lean and TopTwo.lean. -/
module

public import proofs.«01_k».proof.Proof.Softmax
public import proofs.«01_k».proof.Proof.Gen.ReferenceIdeal.Read

@[expose] public section

noncomputable section

namespace Cert.Proof

open Idealize.ShloMosaic Cert.ReferenceIdeal Cert.ReferenceIdeal.Gen Cert.ReferenceIdeal.Read

/-- The shape facts of the softmax over 128 groups. -/
theorem soft128 : SoftFacts 128 :=
  ⟨by decide, h_S_, reducesTo_S2x2048x128x8_S2x2048x128_d3, bcast_S_S2x2048x128, bcast_S2x2048x128_S2x2048x128x1_0_1_2,
    bcast_S2x2048x128x1_S2x2048x128x8_0_1_2_3⟩

/-- The shape facts of the softmax over 512 groups. -/
theorem soft512 : SoftFacts 512 :=
  ⟨by decide, h_S_, reducesTo_S2x2048x512x8_S2x2048x512_d3, bcast_S_S2x2048x512, bcast_S2x2048x512_S2x2048x512x1_0_1_2,
    bcast_S2x2048x512x1_S2x2048x512x8_0_1_2_3⟩

/-- The shape facts of the choice over 128 groups. -/
theorem top128 : TopFacts 128 :=
  ⟨by decide, h_S_, bcast_S_S2x2048x128x8, shapeCasts_S2x2048x128x8_S2x2048x128x8x1, bcast_S_S2x2048x128x8x1,
    bcast_S1_S1x1x1x1x1_4, bcast_S1x1x1x1x1_S2x2048x128x8x1_0_1_2_3_4, reducesTo_S2x2048x128x8x1_S2x2048x128x8_d4,
    bcast_S_S1, bcast_S_S2x2048x128x6, gather_S2x2048x128x8_S2x2048x128x8x1_S2x2048x128x8_n_3_012_012_3_4_1111_wf,
    scatter_S2x2048x128x8_S1_S2x2048x128x6_0123_n_3_0_wf⟩

/-- The shape facts of the choice over 512 groups. -/
theorem top512 : TopFacts 512 :=
  ⟨by decide, h_S_, bcast_S_S2x2048x512x8, shapeCasts_S2x2048x512x8_S2x2048x512x8x1, bcast_S_S2x2048x512x8x1,
    bcast_S1_S1x1x1x1x1_4, bcast_S1x1x1x1x1_S2x2048x512x8x1_0_1_2_3_4, reducesTo_S2x2048x512x8x1_S2x2048x512x8_d4,
    bcast_S_S1, bcast_S_S2x2048x512x6, gather_S2x2048x512x8_S2x2048x512x8x1_S2x2048x512x8_n_3_012_012_3_4_1111_wf,
    scatter_S2x2048x512x8_S1_S2x2048x512x6_0123_n_3_0_wf⟩

variable (x0 : Vec Ideal S2x2048x1024 .f32) (x1 : Vec Ideal S4096x1024 .f32) (x2 : Vec Ideal S4096 .f32)
  (x5 : Vec Ideal S64x1024 .f32) (x6 : Vec Ideal S64 .f32) (x7 : Vec Ideal S1024x64 .f32) (x8 : Vec Ideal S1024 .f32)
  (x9 : Vec Ideal S64x4096 .f32) (x10 : Vec Ideal S64 .f32) (x11 : Vec Ideal S4096x64 .f32) (x12 : Vec Ideal S4096 .f32)

/-- The softmax of the first gate. -/
theorem val_probs1 : val_main_v21 (F := Ideal) x0 x5 x6 x7 x8 = probs soft128 (val_main_v10 (F := Ideal) x0 x5 x6 x7 x8) := by
  unfold val_main_v21 val_main_v20 val_main_v19 val_main_v18 val_main_v17 val_main_v16 val_main_v15 val_main_v14 val_main_v13
    val_main_v12 val_main_v11
  generalize val_main_v10 (F := Ideal) x0 x5 x6 x7 x8 = y
  rfl

/-- The first gate's weights. -/
theorem val_gate1 : val_main_v29 (F := Ideal) x0 x5 x6 x7 x8 = refGate soft128 top128 (val_main_v10 (F := Ideal) x0 x5 x6 x7 x8) := by
  unfold refGate
  rw [← val_probs1]
  rfl

/-- The softmax of the second gate. -/
theorem val_probs2 : val_main_v59 (F := Ideal) x0 x1 x2 x5 x6 x7 x8 x9 x10 x11 x12 =
    probs soft512 (val_main_v48 (F := Ideal) x0 x1 x2 x5 x6 x7 x8 x9 x10 x11 x12) := by
  unfold val_main_v59 val_main_v58 val_main_v57 val_main_v56 val_main_v55 val_main_v54 val_main_v53 val_main_v52 val_main_v51
    val_main_v50 val_main_v49
  generalize val_main_v48 (F := Ideal) x0 x1 x2 x5 x6 x7 x8 x9 x10 x11 x12 = y
  rfl

/-- The second gate's weights. -/
theorem val_gate2 : val_main_v67 (F := Ideal) x0 x1 x2 x5 x6 x7 x8 x9 x10 x11 x12 =
    refGate soft512 top512 (val_main_v48 (F := Ideal) x0 x1 x2 x5 x6 x7 x8 x9 x10 x11 x12) := by
  unfold refGate
  rw [← val_probs2]
  rfl

end Cert.Proof

end
-- ==== Proof.Reference.lean ====
/- The reference, read at an index: on real inputs with zero gate biases it computes the network of Spec.lean. -/
module

public import proofs.«01_k».proof.Proof.RefGates
public import proofs.«01_k».proof.Proof.Spec

@[expose] public section

noncomputable section

namespace Cert.Proof

open Idealize.ShloMosaic Cert.ReferenceIdeal Cert.ReferenceIdeal.Gen Cert.ReferenceIdeal.Read

/-- A real matrix times a real vector is real. -/
theorem IsReal.lin {m n : Nat} {A : Fin m → Fin n → EReal} {x : Fin n → EReal} (hA : ∀ i k, IsReal (A i k))
    (hx : ∀ k, IsReal (x k)) (i : Fin m) : IsReal (lin A x i) :=
  IsReal.sum _ _ fun c _ => (hA i c).mul (hx c)

/-- Real entries gated by real scores are real. -/
theorem IsReal.gated {n : Nat} {hn : 8 ∣ n} {g x : Fin n → EReal} (hg : ∀ k, IsReal (g k)) (hx : ∀ k, IsReal (x k))
    (f : Fin n) : IsReal (gated hn g x f) :=
  (hx f).mul (IsReal.gateW (fun _ => hg _) _)

/-- Splitting the features into groups and joining them again leaves each in its place. -/
theorem split_apply {n G : Nat} (hn : 8 ∣ n) (hG : n = G * 8) (v : FVec Ideal ⟨3, ![2, 2048, n]⟩ .f32)
    (h : Shape.ShapeCasts ⟨3, ![2, 2048, n]⟩ (Octets G)) (a : Fin 2) (b : Fin 2048) (f : Fin n) (j : Fin 8) :
    shapeCast (Octets G) v h (ix4 a b ⟨f.val / 8, by have := f.isLt; omega⟩ j) = group hn (fun k => v (ix3 a b k)) f j := by
  subst hG
  refine shapeCast_apply v h _ (ix3 a b ⟨f.val / 8 * 8 + j.val, by have := f.isLt; have := j.isLt; omega⟩) ?_
  rw [Shape.rowMajor_val_three, Shape.rowMajor_val_four]
  show (a.val * 2048 + b.val) * (G * 8) + (f.val / 8 * 8 + j.val) = ((a.val * 2048 + b.val) * G + f.val / 8) * 8 + j.val
  ring

/-- Joining the groups again puts lane `f % 8` of group `f / 8` at entry `f`. -/
theorem join_apply {n G : Nat} (hG : n = G * 8) (v : FVec Ideal (Octets G) .f32)
    (h : (Octets G).ShapeCasts ⟨3, ![2, 2048, n]⟩) (a : Fin 2) (b : Fin 2048) (f : Fin n) :
    shapeCast ⟨3, ![2, 2048, n]⟩ v h (ix3 a b f) =
      v (ix4 a b ⟨f.val / 8, by have := f.isLt; omega⟩ ⟨f.val % 8, Nat.mod_lt _ (by decide)⟩) := by
  subst hG
  refine shapeCast_apply v h _ _ ?_
  rw [Shape.rowMajor_val_three, Shape.rowMajor_val_four]
  show ((a.val * 2048 + b.val) * G + f.val / 8) * 8 + f.val % 8 = (a.val * 2048 + b.val) * (G * 8) + f.val
  have := Nat.div_add_mod f.val 8
  linarith [Nat.mul_comm ((a.val * 2048 + b.val) * G) 8, Nat.mul_assoc (a.val * 2048 + b.val) G 8]

/-- A gate over the groups of `n` entries, the groups joined again. -/
theorem gate_apply {n G : Nat} (F : SoftFacts G) (T : TopFacts G) (hn : 8 ∣ n) (hG : n = G * 8)
    (v : FVec Ideal ⟨3, ![2, 2048, n]⟩ .f32) (h : Shape.ShapeCasts ⟨3, ![2, 2048, n]⟩ (Octets G))
    (h' : (Octets G).ShapeCasts ⟨3, ![2, 2048, n]⟩) (a : Fin 2) (b : Fin 2048) (f : Fin n) (hv : ∀ k, IsReal (v (ix3 a b k))) :
    shapeCast ⟨3, ![2, 2048, n]⟩ (refGate F T (shapeCast (Octets G) v h)) h' (ix3 a b f) =
      gateW (group hn (fun k => v (ix3 a b k)) f) ⟨f.val % 8, Nat.mod_lt _ (by decide)⟩ := by
  have e := split_apply hn hG v h a b f
  rw [join_apply hG, refGate_apply _ _ _ _ _ _ fun j => by rw [e]; exact hv _]
  exact congrArg (fun g => gateW g _) (funext e)

variable (x0 : Vec Ideal S2x2048x1024 .f32) (x1 : Vec Ideal S4096x1024 .f32) (x2 : Vec Ideal S4096 .f32)
  (x3 : Vec Ideal S1024x4096 .f32) (x4 : Vec Ideal S1024 .f32)
  (x5 : Vec Ideal S64x1024 .f32) (x6 : Vec Ideal S64 .f32) (x7 : Vec Ideal S1024x64 .f32) (x8 : Vec Ideal S1024 .f32)
  (x9 : Vec Ideal S64x4096 .f32) (x10 : Vec Ideal S64 .f32) (x11 : Vec Ideal S4096x64 .f32) (x12 : Vec Ideal S4096 .f32)

/-- The parameters, out of the reference's arguments. -/
def refParams : Params where
  ga i k := x5 (ix2 i k)
  gb i k := x7 (ix2 i k)
  w1 i k := x1 (ix2 i k)
  b1 i := x2 (ix1 i)
  ha i k := x9 (ix2 i k)
  hb i k := x11 (ix2 i k)
  w2 i k := x3 (ix2 i k)
  b2 i := x4 (ix1 i)

/-- What is asked of the arguments: the gate biases are zero, and what the gates' scores depend on is real. -/
structure Tame : Prop where
  x : ∀ i, IsReal (x0 i)
  w1 : ∀ i, IsReal (x1 i)
  b1 : ∀ i, IsReal (x2 i)
  ga : ∀ i, IsReal (x5 i)
  gb : ∀ i, IsReal (x7 i)
  ha : ∀ i, IsReal (x9 i)
  hb : ∀ i, IsReal (x11 i)
  ca : ∀ i, x6 i = 0
  cb : ∀ i, x8 i = 0
  da : ∀ i, x10 i = 0
  db : ∀ i, x12 i = 0

variable (H : Tame x0 x1 x2 x5 x6 x7 x8 x9 x10 x11 x12) (a : Fin 2) (b : Fin 2048)
include H

/-- The first gate's low-rank products. -/
theorem val_low1 (i : Fin 64) : val_main_v4 (F := Ideal) x0 x5 x6 (ix3 a b i) =
    lin (fun i k => x5 (ix2 i k)) (fun k => x0 (ix3 a b k)) i := by
  rw [val_main_v4_apply, val_main_v1_apply, val_main_v3_apply, val_main_v2_apply, H.ca]
  refine (add_zero _).trans (Finset.sum_congr rfl fun k _ => ?_)
  rw [val_main_v0_apply, mul_comm]
  exact congrArg₂ (· * ·) (congrArg x5 (eq_ix2 _)) (congrArg x0 (eq_ix3 _))

/-- The first gate's scores. -/
theorem val_scores1 (f : Fin 1024) : val_main_v9 (F := Ideal) x0 x5 x6 x7 x8 (ix3 a b f) =
    scores1 (refParams x1 x2 x3 x4 x5 x7 x9 x11) (fun k => x0 (ix3 a b k)) f := by
  rw [val_main_v9_apply, val_main_v6_apply, val_main_v8_apply, val_main_v7_apply, H.cb]
  show _ = ∑ c, x7 (ix2 f c) * lin (fun i k => x5 (ix2 i k)) (fun k => x0 (ix3 a b k)) c
  refine (add_zero _).trans (Finset.sum_congr rfl fun k _ => ?_)
  rw [val_main_v5_apply, mul_comm]
  refine congrArg₂ (· * ·) (congrArg x7 (eq_ix2 _)) ?_
  rw [eq_ix3 (lidx_main_v6 _ k)]
  exact val_low1 x0 x1 x2 x5 x6 x7 x8 x9 x10 x11 x12 H a b k

/-- The first gate's scores are real. -/
theorem real_scores1 (f : Fin 1024) : IsReal (scores1 (refParams x1 x2 x3 x4 x5 x7 x9 x11) (fun k => x0 (ix3 a b k)) f) :=
  IsReal.lin (fun _ _ => H.gb _) (IsReal.lin (fun _ _ => H.ga _) fun _ => H.x _) f

/-- The gated features. -/
theorem val_gated1 (f : Fin 1024) : val_main_v31 (F := Ideal) x0 x5 x6 x7 x8 (ix3 a b f) =
    gated (by decide) (scores1 (refParams x1 x2 x3 x4 x5 x7 x9 x11) (fun k => x0 (ix3 a b k))) (fun k => x0 (ix3 a b k)) f := by
  have hs := fun k => val_scores1 x0 x1 x2 x3 x4 x5 x6 x7 x8 x9 x10 x11 x12 H a b k
  have hr := fun k => real_scores1 x0 x1 x2 x3 x4 x5 x6 x7 x8 x9 x10 x11 x12 H a b k
  rw [val_main_v31_apply]
  refine congrArg (x0 (ix3 a b f) * ·) ?_
  unfold val_main_v30
  rw [val_gate1]
  unfold val_main_v10
  generalize val_main_v9 (F := Ideal) x0 x5 x6 x7 x8 = v at hs ⊢
  rw [gate_apply soft128 top128 (by decide) rfl v _ _ a b f fun k => by rw [hs]; exact hr k]
  exact congrArg (fun g => gateW (group (by decide) g f) _) (funext hs)

/-- The hidden units. -/
theorem val_hidden (u : Fin 4096) : val_main_v37 (F := Ideal) x0 x1 x2 x5 x6 x7 x8 (ix3 a b u) =
    hidden (refParams x1 x2 x3 x4 x5 x7 x9 x11) (fun k => x0 (ix3 a b k)) u := by
  rw [val_main_v37_apply, val_main_v36_apply, val_main_v33_apply, val_main_v35_apply, val_main_v34_apply]
  show max _ _ = max (∑ c, x1 (ix2 u c) * gated (by decide) (scores1 (refParams x1 x2 x3 x4 x5 x7 x9 x11) (fun k => x0 (ix3 a b k))) (fun k => x0 (ix3 a b k)) c + x2 (ix1 u)) 0
  refine congrArg₂ max (congrArg₂ (· + ·) (Finset.sum_congr rfl fun k _ => ?_) (congrArg x2 (eq_ix1 _))) Ideal.ofBits_zero_f32
  rw [val_main_v32_apply, mul_comm]
  refine congrArg₂ (· * ·) (congrArg x1 (eq_ix2 _)) ?_
  rw [eq_ix3 (lidx_main_v33 _ k)]
  exact val_gated1 x0 x1 x2 x3 x4 x5 x6 x7 x8 x9 x10 x11 x12 H a b k

/-- The hidden units are real. -/
theorem real_hidden (u : Fin 4096) : IsReal (hidden (refParams x1 x2 x3 x4 x5 x7 x9 x11) (fun k => x0 (ix3 a b k)) u) :=
  ((IsReal.lin (fun _ _ => H.w1 _)
    (IsReal.gated (fun k => real_scores1 x0 x1 x2 x3 x4 x5 x6 x7 x8 x9 x10 x11 x12 H a b k) fun _ => H.x _) u).add (H.b1 _)).max isReal_zero

/-- The second gate's low-rank products. -/
theorem val_low2 (i : Fin 64) : val_main_v42 (F := Ideal) x0 x1 x2 x5 x6 x7 x8 x9 x10 (ix3 a b i) =
    lin (fun i k => x9 (ix2 i k)) (hidden (refParams x1 x2 x3 x4 x5 x7 x9 x11) (fun k => x0 (ix3 a b k))) i := by
  rw [val_main_v42_apply, val_main_v39_apply, val_main_v41_apply, val_main_v40_apply, H.da]
  refine (add_zero _).trans (Finset.sum_congr rfl fun k _ => ?_)
  rw [val_main_v38_apply, mul_comm]
  refine congrArg₂ (· * ·) (congrArg x9 (eq_ix2 _)) ?_
  rw [eq_ix3 (lidx_main_v39 _ k)]
  exact val_hidden x0 x1 x2 x3 x4 x5 x6 x7 x8 x9 x10 x11 x12 H a b k

/-- The second gate's scores. -/
theorem val_scores2 (f : Fin 4096) : val_main_v47 (F := Ideal) x0 x1 x2 x5 x6 x7 x8 x9 x10 x11 x12 (ix3 a b f) =
    scores2 (refParams x1 x2 x3 x4 x5 x7 x9 x11) (fun k => x0 (ix3 a b k)) f := by
  rw [val_main_v47_apply, val_main_v44_apply, val_main_v46_apply, val_main_v45_apply, H.db]
  show _ = ∑ c, x11 (ix2 f c) * lin (fun i k => x9 (ix2 i k)) (hidden (refParams x1 x2 x3 x4 x5 x7 x9 x11) (fun k => x0 (ix3 a b k))) c
  refine (add_zero _).trans (Finset.sum_congr rfl fun k _ => ?_)
  rw [val_main_v43_apply, mul_comm]
  refine congrArg₂ (· * ·) (congrArg x11 (eq_ix2 _)) ?_
  rw [eq_ix3 (lidx_main_v44 _ k)]
  exact val_low2 x0 x1 x2 x3 x4 x5 x6 x7 x8 x9 x10 x11 x12 H a b k

/-- The second gate's scores are real. -/
theorem real_scores2 (f : Fin 4096) : IsReal (scores2 (refParams x1 x2 x3 x4 x5 x7 x9 x11) (fun k => x0 (ix3 a b k)) f) :=
  IsReal.lin (fun _ _ => H.hb _)
    (IsReal.lin (fun _ _ => H.ha _) fun k => real_hidden x0 x1 x2 x3 x4 x5 x6 x7 x8 x9 x10 x11 x12 H a b k) f

/-- The gated hidden units. -/
theorem val_gated2 (f : Fin 4096) : val_main_v69 (F := Ideal) x0 x1 x2 x5 x6 x7 x8 x9 x10 x11 x12 (ix3 a b f) =
    gated (by decide) (scores2 (refParams x1 x2 x3 x4 x5 x7 x9 x11) (fun k => x0 (ix3 a b k))) (hidden (refParams x1 x2 x3 x4 x5 x7 x9 x11) (fun k => x0 (ix3 a b k))) f := by
  have hs := fun k => val_scores2 x0 x1 x2 x3 x4 x5 x6 x7 x8 x9 x10 x11 x12 H a b k
  have hr := fun k => real_scores2 x0 x1 x2 x3 x4 x5 x6 x7 x8 x9 x10 x11 x12 H a b k
  rw [val_main_v69_apply, val_hidden x0 x1 x2 x3 x4 x5 x6 x7 x8 x9 x10 x11 x12 H]
  refine congrArg (hidden (refParams x1 x2 x3 x4 x5 x7 x9 x11) (fun k => x0 (ix3 a b k)) f * ·) ?_
  unfold val_main_v68
  rw [val_gate2]
  unfold val_main_v48
  generalize val_main_v47 (F := Ideal) x0 x1 x2 x5 x6 x7 x8 x9 x10 x11 x12 = v at hs ⊢
  rw [gate_apply soft512 top512 (by decide) rfl v _ _ a b f fun k => by rw [hs]; exact hr k]
  exact congrArg (fun g => gateW (group (by decide) g f) _) (funext hs)

/-- The reference's result: the network at the token. -/
theorem val_result (o : Fin 1024) : val_main_v74 (F := Ideal) x0 x1 x2 x3 x4 x5 x6 x7 x8 x9 x10 x11 x12 (ix3 a b o) =
    tokenOut (refParams x1 x2 x3 x4 x5 x7 x9 x11) (fun k => x0 (ix3 a b k)) o := by
  rw [val_main_v74_apply, val_main_v71_apply, val_main_v73_apply, val_main_v72_apply]
  show _ = ∑ c, x3 (ix2 o c) * gated (by decide) (scores2 (refParams x1 x2 x3 x4 x5 x7 x9 x11) (fun k => x0 (ix3 a b k))) (hidden (refParams x1 x2 x3 x4 x5 x7 x9 x11) (fun k => x0 (ix3 a b k))) c + x4 (ix1 o)
  refine congrArg₂ (· + ·) (Finset.sum_congr rfl fun k _ => ?_) (congrArg x4 (eq_ix1 _))
  rw [val_main_v70_apply, mul_comm]
  refine congrArg₂ (· * ·) (congrArg x3 (eq_ix2 _)) ?_
  rw [eq_ix3 (lidx_main_v71 _ k)]
  exact val_gated2 x0 x1 x2 x3 x4 x5 x6 x7 x8 x9 x10 x11 x12 H a b k

end Cert.Proof

end
-- ==== Proof.Precondition.lean ====
/- The precondition `finite_and_unbiased_gates`, decoded: what it says of the arguments, index by index. -/
module

public import proofs.«01_k».proof.Proof.Reference
public import proofs.«01_k».proof.Proof.Gen.Pre_finite_and_unbiased_gates
public import Idealize.ShloMosaic.Lib.ReduceAll
public import Idealize.ShloMosaic.Lib.Affine
public import Idealize.ShloMosaic.Lib.StableHlo.Predicate

@[expose] public section

noncomputable section

namespace Cert.Proof

open Idealize.ShloMosaic

/-- A scalar has one index. -/
instance scalar_index : Subsingleton Scal.Idx := ⟨fun _ _ => funext fun a => a.elim0⟩

/-- An array that passes the finiteness test is real everywhere. -/
theorem real_of_test {s : Shape} {axes : List (Fin s.rank)} (x : FVec Ideal s .f32)
    (hb : Scal.BroadcastsInDim s ![]) (hr : s.ReducesTo axes Scal) (hs : 0 < Scal.numel) (j : Scal.Idx)
    (e : Host.reduce IntOp.andi (cmpf .olt (Host.absf x) (broadcastInDim s ![] hb (constant (F := Ideal) Scal .f32 0x7F800000#32)))
      (constantI Scal 1 1#1) hr hs j = 1#1) (i : s.Idx) : IsReal (x i) := by
  have h1 := Host.reduce_andi_all _ _ _ _ _ e i
  have h2 : Ideal.cmp .olt (max (x i) (-(x i))) (broadcastInDim s ![] hb (constant (F := Ideal) Scal .f32 0x7F800000#32) i) = 1#1 := h1
  rw [StableHlo.Predicate.bcast_scalar hb hs] at h2
  have h3 : BitVec.ofBool (decide (max (x i) (-(x i)) < Ideal.ofBits .f32 0x7F800000#32)) = 1#1 := h2
  rw [show Ideal.ofBits .f32 0x7F800000#32 = ⊤ by simp [Ideal.ofBits, Ideal.ieee]] at h3
  exact isReal_of_abs_lt (of_decide_eq_true ((StableHlo.Predicate.ofBool_eq_one_iff _).1 h3))

/-- An array that passes the comparison with zero is zero everywhere. -/
theorem zero_of_test {s : Shape} {axes : List (Fin s.rank)} (x : FVec Ideal s .f32)
    (hb : Scal.BroadcastsInDim s ![]) (hr : s.ReducesTo axes Scal) (hs : 0 < Scal.numel) (j : Scal.Idx)
    (e : Host.reduce IntOp.andi (cmpf .oeq x (broadcastInDim s ![] hb (constant (F := Ideal) Scal .f32 0x00000000#32)))
      (constantI Scal 1 1#1) hr hs j = 1#1) (i : s.Idx) : x i = 0 := by
  have h1 := Host.reduce_andi_all _ _ _ _ _ e i
  have h2 : Ideal.cmp .oeq (x i) (broadcastInDim s ![] hb (constant (F := Ideal) Scal .f32 0x00000000#32) i) = 1#1 := h1
  rw [StableHlo.Predicate.bcast_scalar hb hs] at h2
  have h3 : BitVec.ofBool (decide (x i = Ideal.ofBits .f32 0x00000000#32)) = 1#1 := h2
  rw [Ideal.ofBits_zero_f32] at h3
  exact of_decide_eq_true ((StableHlo.Predicate.ofBool_eq_one_iff _).1 h3)

open Cert.ReferenceIdeal Cert.ReferenceIdeal.Gen

variable (x0 : Vec Ideal S2x2048x1024 .f32) (x1 : Vec Ideal S4096x1024 .f32) (x2 : Vec Ideal S4096 .f32)
  (x3 : Vec Ideal S1024x4096 .f32) (x4 : Vec Ideal S1024 .f32)
  (x5 : Vec Ideal S64x1024 .f32) (x6 : Vec Ideal S64 .f32) (x7 : Vec Ideal S1024x64 .f32) (x8 : Vec Ideal S1024 .f32)
  (x9 : Vec Ideal S64x4096 .f32) (x10 : Vec Ideal S64 .f32) (x11 : Vec Ideal S4096x64 .f32) (x12 : Vec Ideal S4096 .f32)

/-- Arguments that meet the precondition are real, and their gate biases are zero. -/
theorem tame_of_pre (h : Cert.Pre_finite_and_unbiased_gates.fn (F := Ideal) x0 x1 x2 x3 x4 x5 x6 x7 x8 x9 x10 x11 x12 = fun _ => 1#1) :
    Tame x0 x1 x2 x5 x6 x7 x8 x9 x10 x11 x12 := by
  have h0 := congrFun h ix0
  unfold Cert.Pre_finite_and_unbiased_gates.fn Cert.Pre_finite_and_unbiased_gates.fn_part1
    Cert.Pre_finite_and_unbiased_gates.fn_part2 at h0
  obtain ⟨h0, k12⟩ := IntOp.andi_eq_one.1 h0
  obtain ⟨h0, k10⟩ := IntOp.andi_eq_one.1 h0
  obtain ⟨h0, k8⟩ := IntOp.andi_eq_one.1 h0
  obtain ⟨h0, k6⟩ := IntOp.andi_eq_one.1 h0
  obtain ⟨h0, k11⟩ := IntOp.andi_eq_one.1 h0
  obtain ⟨h0, k9⟩ := IntOp.andi_eq_one.1 h0
  obtain ⟨h0, k7⟩ := IntOp.andi_eq_one.1 h0
  obtain ⟨h0, k5⟩ := IntOp.andi_eq_one.1 h0
  obtain ⟨h0, k2⟩ := IntOp.andi_eq_one.1 h0
  obtain ⟨k0, k1⟩ := IntOp.andi_eq_one.1 h0
  exact ⟨real_of_test _ _ _ _ _ k0, real_of_test _ _ _ _ _ k1, real_of_test _ _ _ _ _ k2, real_of_test _ _ _ _ _ k5,
    real_of_test _ _ _ _ _ k7, real_of_test _ _ _ _ _ k9, real_of_test _ _ _ _ _ k11, zero_of_test _ _ _ _ _ k6,
    zero_of_test _ _ _ _ _ k8, zero_of_test _ _ _ _ _ k10, zero_of_test _ _ _ _ _ k12⟩

end Cert.Proof

end
-- ==== Proof.Equation.lean ====
/- The equation: on arguments that meet the precondition, the kernel and the reference leave the same result. -/
module

public import proofs.«01_k».proof.Defs
public import proofs.«01_k».proof.Proof.Array
public import proofs.«01_k».proof.Proof.Precondition

@[expose] public section

noncomputable section

namespace Cert.Proof

open Idealize.ShloMosaic Idealize.ShloMosaic.TcCoe Idealize.SL.Sem Cert.KernelIdeal

variable (m : (ℓ : Loc nD τ sig) → Buf (Elt Ideal) ℓ) (c : Dev nD)

/-- The reference's result on the kernel's arguments is the array that the kernel leaves. -/
theorem reference_result
    {y0 : Vec Ideal S2x2048x1024 .f32} {y1 : Vec Ideal S4096x1024 .f32} {y2 : Vec Ideal S4096 .f32}
    {y3 : Vec Ideal S1024x4096 .f32} {y4 : Vec Ideal S1024 .f32} {y5 : Vec Ideal S64x1024 .f32}
    {y6 : Vec Ideal S64 .f32} {y7 : Vec Ideal S1024x64 .f32} {y8 : Vec Ideal S1024 .f32}
    {y9 : Vec Ideal S64x4096 .f32} {y10 : Vec Ideal S64 .f32} {y11 : Vec Ideal S4096x64 .f32}
    {y12 : Vec Ideal S4096 .f32}
    (e0 : y0 = m ((c : Thread nD τ).loc main_arg0)) (e1 : y1 = m ((c : Thread nD τ).loc main_arg1))
    (e2 : y2 = m ((c : Thread nD τ).loc main_arg2)) (e3 : y3 = m ((c : Thread nD τ).loc main_arg3))
    (e4 : y4 = m ((c : Thread nD τ).loc main_arg4)) (e5 : y5 = m ((c : Thread nD τ).loc main_arg5))
    (e6 : y6 = m ((c : Thread nD τ).loc main_arg6)) (e7 : y7 = m ((c : Thread nD τ).loc main_arg7))
    (e8 : y8 = m ((c : Thread nD τ).loc main_arg8)) (e9 : y9 = m ((c : Thread nD τ).loc main_arg9))
    (e10 : y10 = m ((c : Thread nD τ).loc main_arg10)) (e11 : y11 = m ((c : Thread nD τ).loc main_arg11))
    (e12 : y12 = m ((c : Thread nD τ).loc main_arg12))
    (hp : Pre_KernelIdeal_finite_and_unbiased_gates m) :
    Cert.ReferenceIdeal.Read.val_main_v74 (F := Ideal) y0 y1 y2 y3 y4 y5 y6 y7 y8 y9 y10 y11 y12 = result m c := by
  have ht := tame_of_pre _ _ _ _ _ _ _ _ _ _ _ _ _ (hp c)
  subst e0 e1 e2 e3 e4 e5 e6 e7 e8 e9 e10 e11 e12
  funext i
  obtain ⟨a, b, o, rfl⟩ : ∃ (a : Fin 2) (b : Fin 2048) (o : Fin 1024), i = ix3 a b o := ⟨i 0, i 1, i 2, eq_ix3 i⟩
  rw [val_result _ _ _ _ _ _ _ _ _ _ _ _ _ ht]
  rfl

/-- The kernel and the reference, on equal arguments that meet the precondition, leave equal results. -/
theorem algebraic : Cert.algebraic_KernelIdeal_ReferenceIdeal_pre_finite_and_unbiased_gates
    (hKernelIdeal := Cert.KernelIdeal.Gen.facts) (hReferenceIdeal := Cert.ReferenceIdeal.Gen.facts)
    (hPre_finite_and_unbiased_gates := Cert.Pre_finite_and_unbiased_gates.Gen.facts) := by
  intro m g m' g' hp he
  refine ⟨fun c => result m c, run_kernel m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v74_eq (F := Ideal) (StableHlo.launchContents m' c)).trans ?_
  obtain ⟨e0, e1, e2, e3, e4, e5, e6, e7, e8, e9, e10, e11, e12⟩ := he c
  exact reference_result m c e0 e1 e2 e3 e4 e5 e6 e7 e8 e9 e10 e11 e12 hp

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_unbiased_gates
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Pre_finite_and_unbiased_gates.Gen.facts, frame_kernel, frame_ideal, fun m ρ _ => frame_ideal m ρ trivial,
    frame_reference, fun m ρ _ => frame_reference m ρ trivial, trivial, algebraic⟩

end Cert.Proof

end
